-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x1024 : Shape := ⟨3, ![8, 1, 1024]⟩
abbrev S8x1x1x64 : Shape := ⟨4, ![8, 1, 1, 64]⟩
abbrev S8x131072x1x64 : Shape := ⟨4, ![8, 131072, 1, 64]⟩
abbrev S1 : Shape := ⟨1, ![1]⟩
abbrev S8x16x64 : Shape := ⟨3, ![8, 16, 64]⟩
abbrev S8x1x64x131072 : Shape := ⟨4, ![8, 1, 64, 131072]⟩
abbrev S8x64x131072 : Shape := ⟨3, ![8, 64, 131072]⟩
abbrev S8x1x64 : Shape := ⟨3, ![8, 1, 64]⟩
abbrev S1x16x64 : Shape := ⟨3, ![1, 16, 64]⟩
abbrev S1x1x64 : Shape := ⟨3, ![1, 1, 64]⟩
abbrev S1x64x8192 : Shape := ⟨3, ![1, 64, 8192]⟩
abbrev S16x8192 : Shape := ⟨2, ![16, 8192]⟩
abbrev S16x1 : Shape := ⟨2, ![16, 1]⟩
abbrev S16x128 : Shape := ⟨2, ![16, 128]⟩
abbrev S16x64 : Shape := ⟨2, ![16, 64]⟩
abbrev S1x1 : Shape := ⟨2, ![1, 1]⟩
abbrev S1x64 : Shape := ⟨2, ![1, 64]⟩
abbrev S16 : Shape := ⟨1, ![16]⟩
abbrev S1x64x1024 : Shape := ⟨3, ![1, 64, 1024]⟩
abbrev S64x1024 : Shape := ⟨2, ![64, 1024]⟩
abbrev S16x1024 : Shape := ⟨2, ![16, 1024]⟩

abbrev nBuf : Space → Nat
  | .hbm => 20
  | .vmem => 20
  | .smem => 2
  | _ => 0

abbrev bufTy : (tb : Table) → Fin (tcTables nBuf tb) → BufTy
  | .hbm, ⟨0, _⟩ => ⟨S8x1x1024, .bf16⟩
  | .hbm, ⟨1, _⟩ => ⟨S8x1x1x64, .bf16⟩
  | .hbm, ⟨2, _⟩ => ⟨S8x1x1x64, .bf16⟩
  | .hbm, ⟨3, _⟩ => ⟨S8x131072x1x64, .fp8e4m3⟩
  | .hbm, ⟨4, _⟩ => ⟨S1, .f32⟩
  | .hbm, ⟨5, _⟩ => ⟨S8x131072x1x64, .fp8e4m3⟩
  | .hbm, ⟨6, _⟩ => ⟨S1, .f32⟩
  | .hbm, ⟨7, _⟩ => ⟨S8x16x64, .bf16⟩
  | .hbm, ⟨8, _⟩ => ⟨S8x1x64x131072, .fp8e4m3⟩
  | .hbm, ⟨9, _⟩ => ⟨S8x64x131072, .fp8e4m3⟩
  | .hbm, ⟨10, _⟩ => ⟨S8x1x64x131072, .fp8e4m3⟩
  | .hbm, ⟨11, _⟩ => ⟨S8x64x131072, .fp8e4m3⟩
  | .hbm, ⟨12, _⟩ => ⟨S8x1x64, .bf16⟩
  | .hbm, ⟨13, _⟩ => ⟨S8x1x64, .bf16⟩
  | .hbm, ⟨14, _⟩ => ⟨S8x16x64, .bf16⟩
  | .hbm, ⟨15, _⟩ => ⟨S8x1x64, .fp8e4m3⟩
  | .hbm, ⟨16, _⟩ => ⟨S8x1x64, .fp8e4m3⟩
  | .hbm, ⟨17, _⟩ => ⟨S8x1x1024, .bf16⟩
  | .hbm, ⟨18, _⟩ => ⟨S8x1x1x64, .fp8e4m3⟩
  | .hbm, ⟨19, _⟩ => ⟨S8x1x1x64, .fp8e4m3⟩
  | .local _ .vmem, ⟨0, _⟩ => ⟨S1x16x64, .bf16⟩
  | .local _ .vmem, ⟨1, _⟩ => ⟨S1x16x64, .bf16⟩
  | .local _ .vmem, ⟨2, _⟩ => ⟨S1x1x64, .bf16⟩
  | .local _ .vmem, ⟨3, _⟩ => ⟨S1x1x64, .bf16⟩
  | .local _ .vmem, ⟨4, _⟩ => ⟨S1x1x64, .bf16⟩
  | .local _ .vmem, ⟨5, _⟩ => ⟨S1x1x64, .bf16⟩
  | .local _ .vmem, ⟨6, _⟩ => ⟨S1x64x8192, .fp8e4m3⟩
  | .local _ .vmem, ⟨7, _⟩ => ⟨S1x64x8192, .fp8e4m3⟩
  | .local _ .vmem, ⟨8, _⟩ => ⟨S1x64x8192, .fp8e4m3⟩
  | .local _ .vmem, ⟨9, _⟩ => ⟨S1x64x8192, .fp8e4m3⟩
  | .local _ .vmem, ⟨10, _⟩ => ⟨S1x16x64, .bf16⟩
  | .local _ .vmem, ⟨11, _⟩ => ⟨S1x16x64, .bf16⟩
  | .local _ .vmem, ⟨12, _⟩ => ⟨S1x1x64, .fp8e4m3⟩
  | .local _ .vmem, ⟨13, _⟩ => ⟨S1x1x64, .fp8e4m3⟩
  | .local _ .vmem, ⟨14, _⟩ => ⟨S1x1x64, .fp8e4m3⟩
  | .local _ .vmem, ⟨15, _⟩ => ⟨S1x1x64, .fp8e4m3⟩
  | .local _ .vmem, ⟨16, _⟩ => ⟨S16x8192, .f32⟩
  | .local _ .vmem, ⟨17, _⟩ => ⟨S16x1, .f32⟩
  | .local _ .vmem, ⟨18, _⟩ => ⟨S16x128, .f32⟩
  | .local _ .vmem, ⟨19, _⟩ => ⟨S16x64, .f32⟩
  | .local _ .smem, ⟨0, _⟩ => ⟨S1, .f32⟩
  | .local _ .smem, ⟨1, _⟩ => ⟨S1, .f32⟩
  | _, _ => ⟨S8x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v477 : BitVec 1 := Scalar.cmpi .eq arg1 c15_i32
  let v478 : BitVec 32 := Scalar.extui v477
  let c0_i32_117 : BitVec 32 := 0#32
  let v479 : BitVec 1 := Scalar.cmpi .ne v478 c0_i32_117
  v479

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  v10

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x64 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x64 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S8x1x1024 : Shape := ⟨3, ![8, 1, 1024]⟩
abbrev S8x1x1x64 : Shape := ⟨4, ![8, 1, 1, 64]⟩
abbrev S8x131072x1x64 : Shape := ⟨4, ![8, 131072, 1, 64]⟩
abbrev S1 : Shape := ⟨1, ![1]⟩
abbrev S8x16x64 : Shape := ⟨3, ![8, 16, 64]⟩
abbrev S8x1x64 : Shape := ⟨3, ![8, 1, 64]⟩
abbrev S8x131072x64 : Shape := ⟨3, ![8, 131072, 64]⟩
abbrev S1x1x1 : Shape := ⟨3, ![1, 1, 1]⟩
abbrev S8x16x131072 : Shape := ⟨3, ![8, 16, 131072]⟩
abbrev S8x16x1 : Shape := ⟨3, ![8, 16, 1]⟩
abbrev S8x16 : Shape := ⟨2, ![8, 16]⟩

abbrev nBuf : Space → Nat
  | .hbm => 18
  | .vmem => 10
  | .smem => 0
  | _ => 0

abbrev bufTy : (tb : Table) → Fin (tcTables nBuf tb) → BufTy
  | .hbm, ⟨0, _⟩ => ⟨S8x1x1024, .bf16⟩
  | .hbm, ⟨1, _⟩ => ⟨S8x1x1x64, .bf16⟩
  | .hbm, ⟨2, _⟩ => ⟨S8x1x1x64, .bf16⟩
  | .hbm, ⟨3, _⟩ => ⟨S8x131072x1x64, .fp8e4m3⟩
  | .hbm, ⟨4, _⟩ => ⟨S1, .f32⟩
  | .hbm, ⟨5, _⟩ => ⟨S8x131072x1x64, .fp8e4m3⟩
  | .hbm, ⟨6, _⟩ => ⟨S1, .f32⟩
  | .hbm, ⟨7, _⟩ => ⟨S8x16x64, .bf16⟩
  | .hbm, ⟨8, _⟩ => ⟨S8x1x64, .bf16⟩
  | .hbm, ⟨9, _⟩ => ⟨S8x1x64, .bf16⟩
  | .hbm, ⟨10, _⟩ => ⟨S8x131072x64, .fp8e4m3⟩
  | .hbm, ⟨11, _⟩ => ⟨S8x131072x64, .fp8e4m3⟩
  | .hbm, ⟨12, _⟩ => ⟨S8x16x64, .bf16⟩
  | .hbm, ⟨13, _⟩ => ⟨S8x1x64, .fp8e4m3⟩
  | .hbm, ⟨14, _⟩ => ⟨S8x1x64, .fp8e4m3⟩
  | .hbm, ⟨15, _⟩ => ⟨S8x1x1024, .bf16⟩
  | .hbm, ⟨16, _⟩ => ⟨S8x1x1x64, .fp8e4m3⟩
  | .hbm, ⟨17, _⟩ => ⟨S8x1x1x64, .fp8e4m3⟩
  | .local _ .vmem, ⟨0, _⟩ => ⟨S8x16x64, .bf16⟩
  | .local _ .vmem, ⟨1, _⟩ => ⟨S8x1x64, .bf16⟩
  | .local _ .vmem, ⟨2, _⟩ => ⟨S8x1x64, .bf16⟩
  | .local _ .vmem, ⟨3, _⟩ => ⟨S8x131072x64, .fp8e4m3⟩
  | .local _ .vmem, ⟨4, _⟩ => ⟨S1, .f32⟩
  | .local _ .vmem, ⟨5, _⟩ => ⟨S8x131072x64, .fp8e4m3⟩
  | .local _ .vmem, ⟨6, _⟩ => ⟨S1, .f32⟩
  | .local _ .vmem, ⟨7, _⟩ => ⟨S8x16x64, .bf16⟩
  | .local _ .vmem, ⟨8, _⟩ => ⟨S8x1x64, .fp8e4m3⟩
  | .local _ .vmem, ⟨9, _⟩ => ⟨S8x1x64, .fp8e4m3⟩
  | _, _ => ⟨S8x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x131072x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x131072x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x16x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Plain.Runs.lean ====
/- What the three whole-body runs of the kernel as printed share: the region around its one pipeline, the branch
   conditions in closed form over the grid points, where each window is idle, and the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 0 rfl).trans ((hA c 0).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 1 rfl).trans ((hA c 1).trans (V_main_arg6 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x64 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x64 .fp8e4m3 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S16x8192 .f32 := Memref.whole cc0_scratch0
abbrev scM0_1 : Memref sig .tc .vmem S16x1 .f32 := Memref.whole cc0_scratch1
abbrev scM0_2 : Memref sig .tc .vmem S16x128 .f32 := Memref.whole cc0_scratch2
abbrev scM0_3 : Memref sig .tc .vmem S16x64 .f32 := Memref.whole cc0_scratch3
/-- The scratch `arg13` the kernel carries between points, as a view: what it holds is stated through it. -/
abbrev VS0_1 : View sig .tc .vmem S16x1 .f32 := scM0_1.view
/-- The scratch `arg14` the kernel carries between points, as a view: what it holds is stated through it. -/
abbrev VS0_2 : View sig .tc .vmem S16x128 .f32 := scM0_2.view
/-- The scratch `arg15` the kernel carries between points, as a view: what it holds is stated through it. -/
abbrev VS0_3 : View sig .tc .vmem S16x64 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Plain.RunA.lean ====
/- The whole-body run of the kernel as printed at the first block of a batch. -/
module

public import proofs.«01_k».proof.Proof.Plain.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 112: 8 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_A (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    Σ' (LS1 : List (View.Piece (Elt F) S16x1 .f32)), Σ' (LS2 : List (View.Piece (Elt F) S16x128 .f32)), Σ' (LS3 : List (View.Piece (Elt F) S16x64 .f32)), { LT0 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_gqa_decode_fp8_eq_skeleton]; unfold cc0_gqa_decode_fp8_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]; · iexists _; iexact HS2
    iexists _; iexact HS3

end Cert.Kernel.Gen

end
-- ==== Proof.Plain.RunB.lean ====
/- The whole-body run of the kernel as printed at a block that is neither the first nor the last of its batch. -/
module

public import proofs.«01_k».proof.Proof.Plain.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 126: 112 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_B (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) :
    Σ' (LS1 : List (View.Piece (Elt F) S16x1 .f32)), Σ' (LS2 : List (View.Piece (Elt F) S16x128 .f32)), Σ' (LS3 : List (View.Piece (Elt F) S16x64 .f32)), { LT0 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_gqa_decode_fp8_eq_skeleton]; unfold cc0_gqa_decode_fp8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]; · iexists _; iexact HS2
    iexists _; iexact HS3

end Cert.Kernel.Gen

end
-- ==== Proof.Plain.RunC.lean ====
/- The whole-body run of the kernel as printed at the last block of a batch. -/
module

public import proofs.«01_k».proof.Proof.Plain.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken: points 15, 31, … 127: 8 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_C (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) :
    Σ' (LS1 : List (View.Piece (Elt F) S16x1 .f32)), Σ' (LS2 : List (View.Piece (Elt F) S16x128 .f32)), Σ' (LS3 : List (View.Piece (Elt F) S16x64 .f32)), { LT0 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_gqa_decode_fp8_eq_skeleton]; unfold cc0_gqa_decode_fp8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]; · iexists _; iexact HS2
    iexists _; iexact HS3

end Cert.Kernel.Gen

end
-- ==== Proof.Plain.Frame.lean ====
/- The run of the kernel as printed, nothing stated of its three outputs, and its frame. -/
module

public import proofs.«01_k».proof.Proof.Plain.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 2 pieces of `S16x1` tiling it (Lib/Ring.lean `Piece.tiledL`). -/
theorem scover0_A_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 S16x1.size (by sl_kernel_rfl) y

/-- What case A leaves in scratch `arg13`: its pieces read back over junk. -/
def sout0_A_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S16x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1)

/-- Case A's pieces for scratch `arg14`, which the kernel carries between points, cover it: 2 pieces of `S16x128` tiling it (Lib/Ring.lean `Piece.tiledL`). -/
theorem scover0_A_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S16x128.size (by sl_kernel_rfl) y

/-- What case A leaves in scratch `arg14`: its pieces read back over junk. -/
def sout0_A_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S16x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1)

/-- Case A's pieces for scratch `arg15`, which the kernel carries between points, cover it: 2 pieces of `S16x64` tiling it (Lib/Ring.lean `Piece.tiledL`). -/
theorem scover0_A_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S16x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S16x64.size (by sl_kernel_rfl) y

/-- What case A leaves in scratch `arg15`: its pieces read back over junk. -/
def sout0_A_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S16x64 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1)

/-- Case B's pieces for scratch `arg13`, which the kernel carries between points, cover it: 1 piece of `S16x1` tiling it (Lib/Ring.lean `Piece.tiledL`). -/
theorem scover0_B_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1 S16x1.size (by sl_kernel_rfl) y

/-- What case B leaves in scratch `arg13`: its pieces read back over junk. -/
def sout0_B_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1)

/-- Case B's pieces for scratch `arg14`, which the kernel carries between points, cover it: 1 piece of `S16x128` tiling it (Lib/Ring.lean `Piece.tiledL`). -/
theorem scover0_B_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.1 S16x128.size (by sl_kernel_rfl) y

/-- What case B leaves in scratch `arg14`: its pieces read back over junk. -/
def sout0_B_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.1)

/-- Case B's pieces for scratch `arg15`, which the kernel carries between points, cover it: 1 piece of `S16x64` tiling it (Lib/Ring.lean `Piece.tiledL`). -/
theorem scover0_B_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.1 S16x64.size (by sl_kernel_rfl) y

/-- What case B leaves in scratch `arg15`: its pieces read back over junk. -/
def sout0_B_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x64 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.1)

/-- Case C's pieces for scratch `arg13`, which the kernel carries between points, cover it: 1 piece of `S16x1` tiling it (Lib/Ring.lean `Piece.tiledL`). -/
theorem scover0_C_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1 S16x1.size (by sl_kernel_rfl) y

/-- What case C leaves in scratch `arg13`: its pieces read back over junk. -/
def sout0_C_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1)

/-- Case C's pieces for scratch `arg14`, which the kernel carries between points, cover it: 1 piece of `S16x128` tiling it (Lib/Ring.lean `Piece.tiledL`). -/
theorem scover0_C_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.1 S16x128.size (by sl_kernel_rfl) y

/-- What case C leaves in scratch `arg14`: its pieces read back over junk. -/
def sout0_C_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.1)

/-- Case C's pieces for scratch `arg15`, which the kernel carries between points, cover it: 1 piece of `S16x64` tiling it (Lib/Ring.lean `Piece.tiledL`). -/
theorem scover0_C_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.1 S16x64.size (by sl_kernel_rfl) y

/-- What case C leaves in scratch `arg15`: its pieces read back over junk. -/
def sout0_C_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x64 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x1 .f32 × Vec F S16x128 .f32 × Vec F S16x64 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 16 = 0 then
      if h1 : (n + 1) % 16 = 15 then
        False.elim (by have hN : n + 1 < 128 := lt_of_lt_of_eq hn (show cfg0.N = 128 from N_0); omega)
      else
        (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 16 = 15 then
        (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2)
      else
        (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2.1) ∗ owns (c : Thread nD τ) scM0_3 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2.1) ∗ owns (c : Thread nD τ) scM0_3 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2.1) ∗ owns (c : Thread nD τ) scM0_3 fullShare ((outsAt0 m c (n - 1) (by omega)).2.2)) ∗ (∃ r, prngReg c r)) := by
  cases n with
  | zero => exact absurd rfl hz
  | succ n => rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · rw [PhiS_castSucc m c t, PhiS_zero m c _ _ hz, PhiA0_eq]
        rw [outsAt0_A m c t h0 h1]
        unfold sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, H7, H8, H9, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [PhiS_castSucc m c t, PhiS_pos m c _ _ hz]
        rw [outsAt0_A m c t h0 h1]
        unfold sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexists _; iexact HS1
        isplitl [HS2]; · iexists _; iexact HS2
        isplitl [HS3]; · iexists _; iexact HS3
        iintro ⟨H0, H1, H2, H3, H4, H5, H6, H7, H8, H9, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        unfold sout0_C_1 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, H7, H8, H9, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold sout0_B_1 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, H7, H8, H9, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.Steps.Runs.lean ====
/- What the three whole-body runs of the idealized kernel share: the region around its one pipeline, the branch
   conditions in closed form over the grid points, where each window is idle, and the staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 0).trans (((dats 0 c).arrAt_in 0 rfl _).trans ((hA c 0).trans (V_main_arg4 m c))),
      (((h c).2 main_arg5 (Pipeline.mem_restRefs_of main_arg5 (by decide) (by decide))).trans (W_main_arg5 m dats c)),
      ((h c).1 1).trans (((dats 0 c).arrAt_in 1 rfl _).trans ((hA c 1).trans (V_main_arg6 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x80008000800080008000800080008000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C output 8 is idle (the case stores nothing into it) and the pipeline writes its block back. -/
theorem idleAt0_8_C : ∀ t : Fin cfg0.N, ¬cond0_0 (grid0.coords t) → cond0_1 (grid0.coords t) → cfg0.idle 8 (grid0.coords t) = true := by decide +kernel
theorem flushAt0_8_C : ∀ t : Fin cfg0.N, ¬cond0_0 (grid0.coords t) → cond0_1 (grid0.coords t) → (cfg0.win 8).flush t = true := by decide +kernel
/-- At the points of case C, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_C : ∀ t : Fin cfg0.N, ¬cond0_0 (grid0.coords t) → cond0_1 (grid0.coords t) → cfg0.fresh 8 t.val = false := by
  intro t; rw [fresh0_8_eq t]; revert t; decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x80008000800080008000800080008000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C output 9 is idle (the case stores nothing into it) and the pipeline writes its block back. -/
theorem idleAt0_9_C : ∀ t : Fin cfg0.N, ¬cond0_0 (grid0.coords t) → cond0_1 (grid0.coords t) → cfg0.idle 9 (grid0.coords t) = true := by decide +kernel
theorem flushAt0_9_C : ∀ t : Fin cfg0.N, ¬cond0_0 (grid0.coords t) → cond0_1 (grid0.coords t) → (cfg0.win 9).flush t = true := by decide +kernel
/-- At the points of case C, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_C : ∀ t : Fin cfg0.N, ¬cond0_0 (grid0.coords t) → cond0_1 (grid0.coords t) → cfg0.fresh 9 t.val = false := by
  intro t; rw [fresh0_9_eq t]; revert t; decide +kernel

/-! ## The kernel body on any staging memrefs: a subtype the run finds -/

/-- One staging buffer of output window 7, through which its contents are stated (`View.read_writes_of_cover`: the
    choice does not matter). -/
abbrev VO0_7 : View sig .tc .vmem S1x16x64 .bf16 := (Memref.whole cc0_stg7_0 : Memref sig .tc .vmem S1x16x64 .bf16).view
/-- One staging buffer of output window 8, through which its contents are stated (`View.read_writes_of_cover`: the
    choice does not matter). -/
abbrev VO0_8 : View sig .tc .vmem S1x1x64 .fp8e4m3 := (Memref.whole cc0_stg8_0 : Memref sig .tc .vmem S1x1x64 .fp8e4m3).view
/-- One staging buffer of output window 9, through which its contents are stated (`View.read_writes_of_cover`: the
    choice does not matter). -/
abbrev VO0_9 : View sig .tc .vmem S1x1x64 .fp8e4m3 := (Memref.whole cc0_stg9_0 : Memref sig .tc .vmem S1x1x64 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x64 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x64 .fp8e4m3 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S16x8192 .f32 := Memref.whole cc0_scratch0
abbrev scM0_1 : Memref sig .tc .vmem S16x1 .f32 := Memref.whole cc0_scratch1
abbrev scM0_2 : Memref sig .tc .vmem S16x128 .f32 := Memref.whole cc0_scratch2
abbrev scM0_3 : Memref sig .tc .vmem S16x64 .f32 := Memref.whole cc0_scratch3
/-- The scratch `arg13` the kernel carries between points, as a view: what it holds is stated through it. -/
abbrev VS0_1 : View sig .tc .vmem S16x1 .f32 := scM0_1.view
/-- The scratch `arg14` the kernel carries between points, as a view: what it holds is stated through it. -/
abbrev VS0_2 : View sig .tc .vmem S16x128 .f32 := scM0_2.view
/-- The scratch `arg15` the kernel carries between points, as a view: what it holds is stated through it. -/
abbrev VS0_3 : View sig .tc .vmem S16x64 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Steps.RunA.lean ====
/- The whole-body run of the idealized kernel at the first block of a batch. -/
module

public import proofs.«01_k».proof.Proof.Steps.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 112: 8 of 128), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    Σ' (L7 : List (View.Piece (Elt F) S1x16x64 .bf16)), Σ' (L8 : List (View.Piece (Elt F) S1x1x64 .fp8e4m3)), Σ' (L9 : List (View.Piece (Elt F) S1x1x64 .fp8e4m3)), Σ' (LS1 : List (View.Piece (Elt F) S16x1 .f32)), Σ' (LS2 : List (View.Piece (Elt F) S16x128 .f32)), Σ' (LS3 : List (View.Piece (Elt F) S16x64 .f32)), { LT0 : List (View.Piece (Elt F) S16x8192 .f32) //
      ∀ (xi7 : Vec F S1x16x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, ?_, fun xi7 E K => ?run⟩
  case run =>
    simp only [cc0_gqa_decode_fp8_eq_skeleton]; unfold cc0_gqa_decode_fp8_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.KernelIdeal.Gen

end
-- ==== Proof.Steps.RunB.lean ====
/- The whole-body run of the idealized kernel at a block that is neither the first nor the last of its batch. -/
module

public import proofs.«01_k».proof.Proof.Steps.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 126: 112 of 128), WITH the
    proof that on whole staging memrefs — the inputs' at their contents, the outputs it leaves idle (7, 8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) :
    Σ' (L7 : List (View.Piece (Elt F) S1x16x64 .bf16)), Σ' (L8 : List (View.Piece (Elt F) S1x1x64 .fp8e4m3)), Σ' (L9 : List (View.Piece (Elt F) S1x1x64 .fp8e4m3)), Σ' (LS1 : List (View.Piece (Elt F) S16x1 .f32)), Σ' (LS2 : List (View.Piece (Elt F) S16x128 .f32)), Σ' (LS3 : List (View.Piece (Elt F) S16x64 .f32)), { LT0 : List (View.Piece (Elt F) S16x8192 .f32) //
      ∀ (xi7 : Vec F S1x16x64 .bf16) (xi8 : Vec F S1x1x64 .fp8e4m3) (xi9 : Vec F S1x1x64 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ (∃ d, owns (c : Thread nD τ) arg12 fullShare d) ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], ?_, ?_, ?_, ?_, fun xi7 xi8 xi9 E K => ?run⟩
  case run =>
    simp only [cc0_gqa_decode_fp8_eq_skeleton]; unfold cc0_gqa_decode_fp8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    iexists _; iexact HS3

end Cert.KernelIdeal.Gen

end
-- ==== Proof.Steps.RunC.lean ====
/- The whole-body run of the idealized kernel at the last block of a batch. -/
module

public import proofs.«01_k».proof.Proof.Steps.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken: points 15, 31, … 127: 8 of 128), WITH the
    proof that on whole staging memrefs — the inputs' at their contents, the outputs it reads before covering (8, 9) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) :
    Σ' (L7 : List (View.Piece (Elt F) S1x16x64 .bf16)), Σ' (L8 : List (View.Piece (Elt F) S1x1x64 .fp8e4m3)), Σ' (L9 : List (View.Piece (Elt F) S1x1x64 .fp8e4m3)), Σ' (LS1 : List (View.Piece (Elt F) S16x1 .f32)), Σ' (LS2 : List (View.Piece (Elt F) S16x128 .f32)), Σ' (LS3 : List (View.Piece (Elt F) S16x64 .f32)), { LT0 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9 ∗ (∃ d, owns (c : Thread nD τ) arg12 fullShare d) ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xo8 ∗ owns (c : Thread nD τ) arg11 fullShare xo9 ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_gqa_decode_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], [], ?_, ?_, ?_, ?_, fun E K => ?run⟩
  case run =>
    simp only [cc0_gqa_decode_fp8_eq_skeleton]; unfold cc0_gqa_decode_fp8_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    iexists _; iexact HS3

end Cert.KernelIdeal.Gen

end
-- ==== Proof.Steps.Frame.lean ====
/- The run of the idealized kernel with all three outputs NAMED point by point, and its frame.
   The two windows of new-token codes are stored at the first block of a batch and written back at the last one, where the
   body stores nothing into them: there the proof data states that the buffer is handed on as found (`outsAt0_C`), and what
   was found is what the first block left (`carries through idle points`). -/
module

public import proofs.«01_k».proof.Proof.Steps.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S1x16x64 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1)

/-- Case A's pieces for output 8 tile its block (1 store of `S1x1x64`, checked by the kernel's evaluation: Lib/Ring.lean `Piece.tiledL`, linear in the pieces, through a loop's `@[irreducible]` trip theorem too), so they cover it. -/
theorem cover0_A_8 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S1x1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S1x1x64.size (by sl_kernel_rfl) y

/-- What case A leaves in output 8's staging buffer: its pieces read back over junk. -/
def out0_A_8 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S1x1x64 .fp8e4m3 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1)

/-- Case A's pieces for output 9 tile its block (1 store of `S1x1x64`, checked by the kernel's evaluation: Lib/Ring.lean `Piece.tiledL`, linear in the pieces, through a loop's `@[irreducible]` trip theorem too), so they cover it. -/
theorem cover0_A_9 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S1x1x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S1x1x64.size (by sl_kernel_rfl) y

/-- What case A leaves in output 9's staging buffer: its pieces read back over junk. -/
def out0_A_9 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S1x1x64 .fp8e4m3 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1)

/-- Case A's pieces for scratch `arg13`, which the kernel carries between points, cover it: 2 pieces of `S16x1` tiling it (Lib/Ring.lean `Piece.tiledL`). -/
theorem scover0_A_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S16x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S16x1.size (by sl_kernel_rfl) y

/-- What case A leaves in scratch `arg13`: its pieces read back over junk. -/
def sout0_A_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S16x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1)

/-- Case A's pieces for scratch `arg14`, which the kernel carries between points, cover it: 2 pieces of `S16x128` tiling it (Lib/Ring.lean `Piece.tiledL`). -/
theorem scover0_A_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 S16x128.size (by sl_kernel_rfl) y

/-- What case A leaves in scratch `arg14`: its pieces read back over junk. -/
def sout0_A_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S16x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1)

/-- Case A's pieces for scratch `arg15`, which the kernel carries between points, cover it: 2 pieces of `S16x64` tiling it (Lib/Ring.lean `Piece.tiledL`). -/
theorem scover0_A_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (y : S16x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1 S16x64.size (by sl_kernel_rfl) y

/-- What case A leaves in scratch `arg15`: its pieces read back over junk. -/
def sout0_A_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) : Vec F S16x64 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S1x16x64 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).1)

/-- Case B stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_8 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (xo8 : Vec F S1x1x64 .fp8e4m3) : Vec F S1x1x64 .fp8e4m3 := xo8

/-- Case B stores nothing into output 9 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_9 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (xo9 : Vec F S1x1x64 .fp8e4m3) : Vec F S1x1x64 .fp8e4m3 := xo9

/-- Case B's pieces for scratch `arg13`, which the kernel carries between points, cover it: 1 piece of `S16x1` tiling it (Lib/Ring.lean `Piece.tiledL`). -/
theorem scover0_B_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.1 S16x1.size (by sl_kernel_rfl) y

/-- What case B leaves in scratch `arg13`: its pieces read back over junk. -/
def sout0_B_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.1)

/-- Case B's pieces for scratch `arg14`, which the kernel carries between points, cover it: 1 piece of `S16x128` tiling it (Lib/Ring.lean `Piece.tiledL`). -/
theorem scover0_B_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.2.1 S16x128.size (by sl_kernel_rfl) y

/-- What case B leaves in scratch `arg14`: its pieces read back over junk. -/
def sout0_B_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.2.1)

/-- Case B's pieces for scratch `arg15`, which the kernel carries between points, cover it: 1 piece of `S16x64` tiling it (Lib/Ring.lean `Piece.tiledL`). -/
theorem scover0_B_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) (y : S16x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.2.2.1 S16x64.size (by sl_kernel_rfl) y

/-- What case B leaves in scratch `arg15`: its pieces read back over junk. -/
def sout0_B_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) : Vec F S16x64 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3).2.2.2.2.2.1)

/-- Case C's pieces for output 7 tile its block (1 store of `S1x16x64`, checked by the kernel's evaluation: Lib/Ring.lean `Piece.tiledL`, linear in the pieces, through a loop's `@[irreducible]` trip theorem too), so they cover it. -/
theorem cover0_C_7 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) (y : S1x16x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).1 S1x16x64.size (by sl_kernel_rfl) y

/-- What case C leaves in output 7's staging buffer: its pieces read back over junk. -/
def out0_C_7 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) : Vec F S1x16x64 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).1)

/-- Case C stores nothing into output 8, a live window: its staging buffer holds what the point before left. -/
def out0_C_8 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) : Vec F S1x1x64 .fp8e4m3 := xo8

/-- Case C stores nothing into output 9, a live window: its staging buffer holds what the point before left. -/
def out0_C_9 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) : Vec F S1x1x64 .fp8e4m3 := xo9

/-- Case C's pieces for scratch `arg13`, which the kernel carries between points, cover it: 1 piece of `S16x1` tiling it (Lib/Ring.lean `Piece.tiledL`). -/
theorem scover0_C_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) (y : S16x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.1 S16x1.size (by sl_kernel_rfl) y

/-- What case C leaves in scratch `arg13`: its pieces read back over junk. -/
def sout0_C_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) : Vec F S16x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.1)

/-- Case C's pieces for scratch `arg14`, which the kernel carries between points, cover it: 1 piece of `S16x128` tiling it (Lib/Ring.lean `Piece.tiledL`). -/
theorem scover0_C_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) (y : S16x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.2.1 S16x128.size (by sl_kernel_rfl) y

/-- What case C leaves in scratch `arg14`: its pieces read back over junk. -/
def sout0_C_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) : Vec F S16x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.2.1)

/-- Case C's pieces for scratch `arg15`, which the kernel carries between points, cover it: 1 piece of `S16x64` tiling it (Lib/Ring.lean `Piece.tiledL`). -/
theorem scover0_C_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) (y : S16x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.2.2.1 S16x64.size (by sl_kernel_rfl) y

/-- What case C leaves in scratch `arg15`: its pieces read back over junk. -/
def sout0_C_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i)
    (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) : Vec F S16x64 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x16x64 .bf16 × Vec F S1x1x64 .fp8e4m3 × Vec F S1x1x64 .fp8e4m3 × Vec F S16x1 .f32 × Vec F S16x128 .f32 × Vec F S16x64 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 16 = 0 then
      if h1 : (n + 1) % 16 = 15 then
        False.elim (by have hN : n + 1 < 128 := lt_of_lt_of_eq hn (show cfg0.N = 128 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 16 = 15 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 128 := lt_of_lt_of_eq t.isLt (show cfg0.N = 128 from N_0)
  rw [after0_8, after0_8]
  by_cases h0 : t.val % 16 = 0
  · by_cases h1 : t.val % 16 = 15
    · exfalso; omega
    · rw [liveAt0_8_A t ((hcond0_0 t).mpr h0) (fun h => h1 ((hcond0_1 t).mp h))] at hi
      exact absurd hi Bool.false_ne_true
  · by_cases h1 : t.val % 16 = 15
    · rw [outsAt0_C m c t h0 h1]
      dsimp only
      unfold out0_C_8
      rfl
    · rw [outsAt0_B m c t h0 h1]
      dsimp only
      unfold out0_B_8
      rfl

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 128 := lt_of_lt_of_eq t.isLt (show cfg0.N = 128 from N_0)
  rw [after0_9, after0_9]
  by_cases h0 : t.val % 16 = 0
  · by_cases h1 : t.val % 16 = 15
    · exfalso; omega
    · rw [liveAt0_9_A t ((hcond0_0 t).mpr h0) (fun h => h1 ((hcond0_1 t).mp h))] at hi
      exact absurd hi Bool.false_ne_true
  · by_cases h1 : t.val % 16 = 15
    · rw [outsAt0_C m c t h0 h1]
      dsimp only
      unfold out0_C_9
      rfl
    · rw [outsAt0_B m c t h0 h1]
      dsimp only
      unfold out0_B_9
      rfl
/-- At a point of case C output 8's current staging buffer holds what the point before left: the buffer is not fresh
    there (`notFresh0_8_C`: stored into since the region's entry or the last write-back, carried through the points that
    leave it idle by `hcarry0_8`; Lib/Pipeline/TableIdle.lean `Dat.before_out_traj`). -/
theorem before0_8_C (c : Dev nD) (t : Fin cfg0.N) (h0 : ¬t.val % 16 = 0) (h1 : t.val % 16 = 15) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_C t (fun h => h0 ((hcond0_0 t).mp h)) ((hcond0_1 t).mpr h1)]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 16 = 0) (h1 : t.val % 16 = 15) (d) :
    (dats m 0 c).before 9 t d = (outsAt0 m c (t.val - 1) (Nat.lt_of_le_of_lt (Nat.sub_le _ _) t.isLt)).2.2.1 := by
  rw [Dat.before_out_traj _ 9 rfl (fun _ _ => rfl) (hcarry0_9 m c) t.val t rfl d,
    if_neg (by rw [notFresh0_9_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      by_cases hz : t.val = 0
      · rw [PhiS_castSucc m c t, PhiS_zero m c _ _ hz, PhiA0_eq]
        rw [outsAt0_A m c t h0 h1]
        unfold out0_A_8 out0_A_9 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, H7, ⟨%e8, H8⟩, ⟨%e9, H9⟩, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_8 out0_A_9 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexists _; iexact HS1
        isplitl [HS2]; · iexists _; iexact HS2
        isplitl [HS3]; · iexists _; iexact HS3
        iintro ⟨H0, H1, H2, H3, H4, H5, H6, H7, ⟨%e8, H8⟩, ⟨%e9, H9⟩, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [idleAt0_8_C t (fun h => h0 ((hcond0_0 t).mp h)) ((hcond0_1 t).mpr h1), flushAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [idleAt0_9_C t (fun h => h0 ((hcond0_0 t).mp h)) ((hcond0_1 t).mpr h1), flushAt0_9_C t (fun h => h0 ((hcond0_0 t).mp h)) ((hcond0_1 t).mpr h1)], after0_9]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        simp only [before0_8_C m c t h0 h1, before0_9_C m c t h0 h1]
        unfold out0_C_7 out0_C_8 out0_C_9 sout0_C_1 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexact HS0
        isplitl [HS1]; · iexact HS1
        isplitl [HS2]; · iexact HS2
        isplitl [HS3]; · iexact HS3
        iintro ⟨H0, H1, H2, H3, H4, H5, H6, ⟨%e7, H7⟩, H8, H9, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _ _ _)
        isplitl [H8]; · iexact H8
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold sout0_B_1 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        iintro ⟨H0, H1, H2, H3, H4, H5, H6, H7, H8, H9, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Value.Block.lean ====
/- One block step of the idealized kernel in a few functions of what it reads: the scores of a chunk of 1024 positions, the
   running maximum over the eight chunks of a block, the weights of a chunk, and the two running sums. -/
module

public import proofs.«01_k».proof.Proof.Steps.Frame

@[expose] public section

set_option maxRecDepth 16384

namespace Cert.KernelIdeal.Value

open Idealize.ShloMosaic Cert.KernelIdeal Cert.KernelIdeal.Gen

variable {F : FTy → Type} [FloatOps F] [Named F]

/-- Chunk `c` of a block of codes: positions `1024 c` to `1024 c + 1023`. -/
noncomputable def KC (c : Fin 8) (k : Vec F S1x64x8192 .fp8e4m3) : Vec F S1x64x1024 .fp8e4m3 :=
  View.ld k (Rect.unit ![0, 0, 1024 * c.val] S1x64x1024.size (by decide +revert))

/-- The codes of a chunk times their scale. -/
noncomputable def DQ (s : FVec F S1x1 .bf16) (k : Vec F S1x64x1024 .fp8e4m3) : FVec F S64x1024 .bf16 :=
  mulf (extf .bf16 (shapeCast S64x1024 k shapeCasts_S1x64x1024_S64x1024) bitsLt_fp8e4m3_bf16)
    (broadcastTo S64x1024 s broadcasts_S1x1_S64x1024)

/-- The scores of a chunk. -/
noncomputable def SC (q : FVec F S16x64 .bf16) (s : FVec F S1x1 .bf16) (k : Vec F S1x64x1024 .fp8e4m3) : FVec F S16x1024 .f32 :=
  matmul dot_S16x64_S64x1024_S16x1024_1_0_0_1_n_n none q (DQ s k) (constant S16x1024 .f32 0x00000000#32)

/-- The lanewise maximum with the eight groups of 128 scores of a chunk. -/
noncomputable def MX (a : FVec F S16x128 .f32) (s : FVec F S16x1024 .f32) : FVec F S16x128 .f32 :=
  maximumf (maximumf (maximumf (maximumf (maximumf (maximumf (maximumf (maximumf a
    (extractStridedSlice S16x128 ![0, 0] s slices_S16x1024_o0_0_S16x128))
    (extractStridedSlice S16x128 ![0, 128] s slices_S16x1024_o0_128_S16x128))
    (extractStridedSlice S16x128 ![0, 256] s slices_S16x1024_o0_256_S16x128))
    (extractStridedSlice S16x128 ![0, 384] s slices_S16x1024_o0_384_S16x128))
    (extractStridedSlice S16x128 ![0, 512] s slices_S16x1024_o0_512_S16x128))
    (extractStridedSlice S16x128 ![0, 640] s slices_S16x1024_o0_640_S16x128))
    (extractStridedSlice S16x128 ![0, 768] s slices_S16x1024_o0_768_S16x128))
    (extractStridedSlice S16x128 ![0, 896] s slices_S16x1024_o0_896_S16x128)

/-- The lanewise sum with the eight groups of 128 weights of a chunk. -/
noncomputable def LS (a : FVec F S16x128 .f32) (p : FVec F S16x1024 .f32) : FVec F S16x128 .f32 :=
  addf (addf (addf (addf (addf (addf (addf (addf a
    (extractStridedSlice S16x128 ![0, 0] p slices_S16x1024_o0_0_S16x128))
    (extractStridedSlice S16x128 ![0, 128] p slices_S16x1024_o0_128_S16x128))
    (extractStridedSlice S16x128 ![0, 256] p slices_S16x1024_o0_256_S16x128))
    (extractStridedSlice S16x128 ![0, 384] p slices_S16x1024_o0_384_S16x128))
    (extractStridedSlice S16x128 ![0, 512] p slices_S16x1024_o0_512_S16x128))
    (extractStridedSlice S16x128 ![0, 640] p slices_S16x1024_o0_640_S16x128))
    (extractStridedSlice S16x128 ![0, 768] p slices_S16x1024_o0_768_S16x128))
    (extractStridedSlice S16x128 ![0, 896] p slices_S16x1024_o0_896_S16x128)

/-- The chunk's weighted values added to the running sum. -/
noncomputable def AV (s : FVec F S1x1 .bf16) (a : FVec F S16x64 .f32) (p : FVec F S16x1024 .f32) (v : Vec F S1x64x1024 .fp8e4m3) :
    FVec F S16x64 .f32 :=
  addf a (matmul dot_S16x1024_S64x1024_S16x64_1_1_0_0_n_n none (truncf .bf16 p bitsLt_bf16_f32) (DQ s v)
    (constant S16x64 .f32 0x00000000#32))

/-- The block's score at chunk `c`. -/
noncomputable def SB (q : FVec F S16x64 .bf16) (s : FVec F S1x1 .bf16) (k : Vec F S1x64x8192 .fp8e4m3) (c : Fin 8) : FVec F S16x1024 .f32 :=
  SC q s (KC c k)

/-- The new running maximum. -/
noncomputable def MB (q : FVec F S16x64 .bf16) (s : FVec F S1x1 .bf16) (k : Vec F S1x64x8192 .fp8e4m3) (m : FVec F S16x1 .f32) : FVec F S16x1 .f32 :=
  maximumf m (shapeCast S16x1 (multiReduction .maximumf [1] S16
    (MX (MX (MX (MX (MX (MX (MX (MX (broadcast S16x128 (Scalar.ofBits .f32 0xFF800000#32))
      (SB q s k 0)) (SB q s k 1)) (SB q s k 2)) (SB q s k 3)) (SB q s k 4)) (SB q s k 5)) (SB q s k 6)) (SB q s k 7))
    0xFF800000#32 reduces_S16x128_S16 (.inl rfl) rfl) shapeCasts_S16_S16x1)

/-- The factor that carries the old sums over to the new maximum `m'`. -/
noncomputable def AL (m m' : FVec F S16x1 .f32) : FVec F S16x1 .f32 :=
  exp2 (mulf (subf m m') (broadcast S16x1 (Named.named κ "scale_log2e" 0x3E38AA3B#32)))

/-- The weights of a chunk of scores under the maximum `m'`. -/
noncomputable def PB (m' : FVec F S16x1 .f32) (s : FVec F S16x1024 .f32) : FVec F S16x1024 .f32 :=
  exp2 (subf (mulf s (broadcast S16x1024 (Named.named κ "scale_log2e" 0x3E38AA3B#32)))
    (broadcastTo S16x1024 (mulf m' (broadcast S16x1 (Named.named κ "scale_log2e" 0x3E38AA3B#32))) broadcasts_S16x1_S16x1024))

/-- The new running sum of the weights, lane by lane. -/
noncomputable def LB (q : FVec F S16x64 .bf16) (s : FVec F S1x1 .bf16) (k : Vec F S1x64x8192 .fp8e4m3) (m m' : FVec F S16x1 .f32)
    (l : FVec F S16x128 .f32) : FVec F S16x128 .f32 :=
  LS (LS (LS (LS (LS (LS (LS (LS (mulf l (broadcastTo S16x128 (AL m m') broadcasts_S16x1_S16x128))
    (PB m' (SB q s k 0))) (PB m' (SB q s k 1))) (PB m' (SB q s k 2))) (PB m' (SB q s k 3))) (PB m' (SB q s k 4)))
    (PB m' (SB q s k 5))) (PB m' (SB q s k 6))) (PB m' (SB q s k 7))

/-- The new running sum of the weighted values. -/
noncomputable def AB (q : FVec F S16x64 .bf16) (s vs : FVec F S1x1 .bf16) (k v : Vec F S1x64x8192 .fp8e4m3) (m m' : FVec F S16x1 .f32)
    (a : FVec F S16x64 .f32) : FVec F S16x64 .f32 :=
  AV vs (AV vs (AV vs (AV vs (AV vs (AV vs (AV vs (AV vs (mulf a (broadcastTo S16x64 (AL m m') broadcasts_S16x1_S16x64))
    (PB m' (SB q s k 0)) (KC 0 v)) (PB m' (SB q s k 1)) (KC 1 v)) (PB m' (SB q s k 2)) (KC 2 v)) (PB m' (SB q s k 3)) (KC 3 v))
    (PB m' (SB q s k 4)) (KC 4 v)) (PB m' (SB q s k 5)) (KC 5 v)) (PB m' (SB q s k 6)) (KC 6 v)) (PB m' (SB q s k 7)) (KC 7 v)

/-- The number in a vector of one. -/
noncomputable def S0 (x : Vec F S1 .f32) : Elt F .f32 :=
  View.ld x (Rect.unit ![0] ![1] inb_S1_S1_0) (Shape.Idx.first (s := (Rect.unit (s := S1) ![0] ![1] inb_S1_S1_0).toLoadRect.shape) (by decide))

end Cert.KernelIdeal.Value
-- ==== Proof.Value.Read.lean ====
/- The block steps of the idealized kernel read back from the stores of its runs. -/
module

public import proofs.«01_k».proof.Proof.Value.Block
public import Idealize.ShloMosaic.Lib.Pipeline.Value
public import Idealize.ShloMosaic.Lib.Pipeline.ReadBack

@[expose] public section

set_option maxRecDepth 16384

noncomputable section

namespace Cert.KernelIdeal.Value

open Idealize.ShloMosaic Idealize.ShloMosaic.TcCoe Idealize.SL.Sem Idealize.ShloMosaic.Tactic
open Cert.KernelIdeal Cert.KernelIdeal.Gen

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem ld_q (x : Vec F S1x16x64 .bf16) : View.ld x (Rect.unit ![0, 0, 0] ![1, 16, 64] inb_S1x16x64_S1x16x64_0_0_0) = x :=
  View.ld_unit_zero (S := S1x16x64) hz3 _ x
theorem ld_n (x : Vec F S1x1x64 .bf16) : View.ld x (Rect.unit ![0, 0, 0] ![1, 1, 64] inb_S1x1x64_S1x1x64_0_0_0) = x :=
  View.ld_unit_zero (S := S1x1x64) hz3 _ x
theorem ld_m (x : Vec F S16x1 .f32) : View.ld x (Rect.unit ![0, 0] ![16, 1] inb_S16x1_S16x1_0_0) = x :=
  View.ld_unit_zero (S := S16x1) hz2 _ x
theorem ld_l (x : Vec F S16x128 .f32) : View.ld x (Rect.unit ![0, 0] ![16, 128] inb_S16x128_S16x128_0_0) = x :=
  View.ld_unit_zero (S := S16x128) hz2 _ x
theorem ld_a (x : Vec F S16x64 .f32) : View.ld x (Rect.unit ![0, 0] ![16, 64] inb_S16x64_S16x64_0_0) = x :=
  View.ld_unit_zero (S := S16x64) hz2 _ x
theorem ld_k0 (k : Vec F S1x64x8192 .fp8e4m3) :
    View.ld k (Rect.unit ![0, 0, 0] ![1, 64, 1024] inb_S1x64x8192_S1x64x1024_0_0_0) = KC 0 k := rfl
theorem ld_k1 (k : Vec F S1x64x8192 .fp8e4m3) :
    View.ld k (Rect.unit ![0, 0, 1024] ![1, 64, 1024] inb_S1x64x8192_S1x64x1024_0_0_1024) = KC 1 k := rfl
theorem ld_k2 (k : Vec F S1x64x8192 .fp8e4m3) :
    View.ld k (Rect.unit ![0, 0, 2048] ![1, 64, 1024] inb_S1x64x8192_S1x64x1024_0_0_2048) = KC 2 k := rfl
theorem ld_k3 (k : Vec F S1x64x8192 .fp8e4m3) :
    View.ld k (Rect.unit ![0, 0, 3072] ![1, 64, 1024] inb_S1x64x8192_S1x64x1024_0_0_3072) = KC 3 k := rfl
theorem ld_k4 (k : Vec F S1x64x8192 .fp8e4m3) :
    View.ld k (Rect.unit ![0, 0, 4096] ![1, 64, 1024] inb_S1x64x8192_S1x64x1024_0_0_4096) = KC 4 k := rfl
theorem ld_k5 (k : Vec F S1x64x8192 .fp8e4m3) :
    View.ld k (Rect.unit ![0, 0, 5120] ![1, 64, 1024] inb_S1x64x8192_S1x64x1024_0_0_5120) = KC 5 k := rfl
theorem ld_k6 (k : Vec F S1x64x8192 .fp8e4m3) :
    View.ld k (Rect.unit ![0, 0, 6144] ![1, 64, 1024] inb_S1x64x8192_S1x64x1024_0_0_6144) = KC 6 k := rfl
theorem ld_k7 (k : Vec F S1x64x8192 .fp8e4m3) :
    View.ld k (Rect.unit ![0, 0, 7168] ![1, 64, 1024] inb_S1x64x8192_S1x64x1024_0_0_7168) = KC 7 k := rfl

theorem stored0 (q : Vec F S1x16x64 .bf16) (s : Elt F .f32) (k : Vec F S1x64x1024 .fp8e4m3) : k0_pay21 q s k = SC (k0_pay12 q) (k0_pay15 s) k := shapeCast_self _ _
theorem stored1 (q : FVec F S16x64 .bf16) (s : FVec F S1x1 .bf16) (k : Vec F S1x64x1024 .fp8e4m3) : k0_pay25 q s (k0_pay23 k) = SC q s k := shapeCast_self _ _
theorem stored2 (q : FVec F S16x64 .bf16) (s : FVec F S1x1 .bf16) (k : Vec F S1x64x1024 .fp8e4m3) : k0_pay27 q s k = SC q s k := shapeCast_self _ _
theorem stored3 (q : FVec F S16x64 .bf16) (s : FVec F S1x1 .bf16) (k : Vec F S1x64x1024 .fp8e4m3) : k0_pay30 q s k = SC q s k := shapeCast_self _ _
theorem stored4 (q : FVec F S16x64 .bf16) (s : FVec F S1x1 .bf16) (k : Vec F S1x64x1024 .fp8e4m3) : k0_pay32 q s k = SC q s k := shapeCast_self _ _
theorem stored5 (q : FVec F S16x64 .bf16) (s : FVec F S1x1 .bf16) (k : Vec F S1x64x1024 .fp8e4m3) : k0_pay36 q s k = SC q s k := shapeCast_self _ _
theorem stored6 (q : FVec F S16x64 .bf16) (s : FVec F S1x1 .bf16) (k : Vec F S1x64x1024 .fp8e4m3) : k0_pay38 q s k = SC q s k := shapeCast_self _ _
theorem stored7 (q : FVec F S16x64 .bf16) (s : FVec F S1x1 .bf16) (k : Vec F S1x64x1024 .fp8e4m3) : k0_pay42 q s k = SC q s k := shapeCast_self _ _

theorem max_eq (q : Vec F S1x16x64 .bf16) (s : Elt F .f32) (k : Vec F S1x64x8192 .fp8e4m3) (m : FVec F S16x1 .f32) : k0_pay43 (k0_pay12 q) (k0_pay15 s) (k0_pay37 (k0_pay12 q) (k0_pay15 s) (KC 6 k)) (k0_pay39 (k0_pay12 q) (k0_pay15 s) (k0_pay31 (k0_pay12 q) (k0_pay15 s) (KC 4 k)) (k0_pay33 (k0_pay12 q) (k0_pay15 s) (k0_pay28 (k0_pay12 q) (k0_pay15 s) (k0_pay22 q s (KC 0 k)) (k0_pay23 (KC 1 k)) (KC 2 k)) (KC 3 k) (KC 4 k)) (k0_pay34 (k0_pay12 q) (k0_pay15 s) (KC 4 k)) (KC 5 k) (KC 6 k)) (k0_pay40 (k0_pay12 q) (k0_pay15 s) (KC 6 k)) (KC 7 k) m = MB (k0_pay12 q) (k0_pay15 s) k m := rfl
theorem max_stored (q : Vec F S1x16x64 .bf16) (s : Elt F .f32) (k : Vec F S1x64x8192 .fp8e4m3) (m : FVec F S16x1 .f32) : k0_pay44 (k0_pay12 q) (k0_pay15 s) (k0_pay37 (k0_pay12 q) (k0_pay15 s) (KC 6 k)) (k0_pay39 (k0_pay12 q) (k0_pay15 s) (k0_pay31 (k0_pay12 q) (k0_pay15 s) (KC 4 k)) (k0_pay33 (k0_pay12 q) (k0_pay15 s) (k0_pay28 (k0_pay12 q) (k0_pay15 s) (k0_pay22 q s (KC 0 k)) (k0_pay23 (KC 1 k)) (KC 2 k)) (KC 3 k) (KC 4 k)) (k0_pay34 (k0_pay12 q) (k0_pay15 s) (KC 4 k)) (KC 5 k) (KC 6 k)) (k0_pay40 (k0_pay12 q) (k0_pay15 s) (KC 6 k)) (KC 7 k) m = MB (k0_pay12 q) (k0_pay15 s) k m :=
  (shapeCast_self _ _).trans (max_eq q s k m)
theorem alpha_eq (q : Vec F S1x16x64 .bf16) (s : Elt F .f32) (k : Vec F S1x64x8192 .fp8e4m3) (m : FVec F S16x1 .f32) : k0_pay45 (k0_pay12 q) (k0_pay15 s) (k0_pay37 (k0_pay12 q) (k0_pay15 s) (KC 6 k)) (k0_pay39 (k0_pay12 q) (k0_pay15 s) (k0_pay31 (k0_pay12 q) (k0_pay15 s) (KC 4 k)) (k0_pay33 (k0_pay12 q) (k0_pay15 s) (k0_pay28 (k0_pay12 q) (k0_pay15 s) (k0_pay22 q s (KC 0 k)) (k0_pay23 (KC 1 k)) (KC 2 k)) (KC 3 k) (KC 4 k)) (k0_pay34 (k0_pay12 q) (k0_pay15 s) (KC 4 k)) (KC 5 k) (KC 6 k)) (k0_pay40 (k0_pay12 q) (k0_pay15 s) (KC 6 k)) (KC 7 k) m = AL m (MB (k0_pay12 q) (k0_pay15 s) k m) :=
  congrArg (fun z => exp2 (mulf (subf m z) (broadcast S16x1 (Named.named κ  "scale_log2e" (0x3E38AA3B#32 : BitVec 32)) : FVec F S16x1 .f32))) (max_eq q s k m)
theorem scaled_eq (q : Vec F S1x16x64 .bf16) (s : Elt F .f32) (k : Vec F S1x64x8192 .fp8e4m3) (m : FVec F S16x1 .f32) : k0_pay46 (k0_pay12 q) (k0_pay15 s) (k0_pay37 (k0_pay12 q) (k0_pay15 s) (KC 6 k)) (k0_pay39 (k0_pay12 q) (k0_pay15 s) (k0_pay31 (k0_pay12 q) (k0_pay15 s) (KC 4 k)) (k0_pay33 (k0_pay12 q) (k0_pay15 s) (k0_pay28 (k0_pay12 q) (k0_pay15 s) (k0_pay22 q s (KC 0 k)) (k0_pay23 (KC 1 k)) (KC 2 k)) (KC 3 k) (KC 4 k)) (k0_pay34 (k0_pay12 q) (k0_pay15 s) (KC 4 k)) (KC 5 k) (KC 6 k)) (k0_pay40 (k0_pay12 q) (k0_pay15 s) (KC 6 k)) (KC 7 k) m = mulf (MB (k0_pay12 q) (k0_pay15 s) k m) (broadcast S16x1 (Named.named κ  "scale_log2e" (0x3E38AA3B#32 : BitVec 32)) : FVec F S16x1 .f32) :=
  congrArg (fun z => mulf z (broadcast S16x1 (Named.named κ  "scale_log2e" (0x3E38AA3B#32 : BitVec 32)) : FVec F S16x1 .f32)) (max_eq q s k m)

/-- The first maximum: the new token's scores. -/
def IM (x0 : Vec F S1 .f32) (x2 : Vec F S1x16x64 .bf16) (x3 : Vec F S1x1x64 .bf16) : FVec F S16x1 .f32 :=
  k0_pay17 (k0_pay10 (k0_pay12 x2)) (k0_pay11 (k0_pay13 (S0 x0)) (k0_pay15 (S0 x0)) x3)
/-- The first sum of the weights: a one in the first lane. -/
def IL : FVec F S16x128 .f32 := k0_pay18
/-- The first sum of the weighted values: the new token's value. -/
def IA (x1 : Vec F S1 .f32) (x4 : Vec F S1x1x64 .bf16) : FVec F S16x64 .f32 :=
  k0_pay19 (k0_pay9 (k0_pay14 (S0 x1)) (k0_pay16 (S0 x1)) x4)
/-- The output of a batch from its final sums. -/
def YB (l : FVec F S16x128 .f32) (a : FVec F S16x64 .f32) : FVec F S1x16x64 .bf16 :=
  shapeCast S1x16x64 (truncf .bf16 (divf a (broadcastTo S16x64 (shapeCast S16x1
    (multiReduction .add [1] S16 l 0x00000000#32 reduces_S16x128_S16 (.inl rfl) rfl) shapeCasts_S16_S16x1) broadcasts_S16x1_S16x64))
    bitsLt_bf16_f32) shapeCasts_S16x64_S1x16x64

theorem sout_B_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 = (MB (k0_pay12 x2) (k0_pay15 (S0 x0)) x5 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3)]
  unfold kernelRun0_B
  dsimp only
  sl_unfold_words
  rw [View.canon_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]

theorem sout_B_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 = LB (k0_pay12 x2) (k0_pay15 (S0 x0)) x5 xs1 (MB (k0_pay12 x2) (k0_pay15 (S0 x0)) x5 xs1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3)]
  unfold kernelRun0_B
  dsimp only
  sl_unfold_words
  rw [View.canon_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, YB]

theorem sout_B_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xs1 : Vec F S16x1 .f32) (xs2 : Vec F S16x128 .f32) (xs3 : Vec F S16x64 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 = AB (k0_pay12 x2) (k0_pay15 (S0 x0)) (k0_pay16 (S0 x1)) x5 x6 xs1 (MB (k0_pay12 x2) (k0_pay15 (S0 x0)) x5 xs1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3)]
  unfold kernelRun0_B
  dsimp only
  sl_unfold_words
  rw [View.canon_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, YB]

theorem sout_C_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3 = (MB (k0_pay12 x2) (k0_pay15 (S0 x0)) x5 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3)]
  unfold kernelRun0_C
  dsimp only
  sl_unfold_words
  rw [View.canon_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]

theorem sout_C_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3 = LB (k0_pay12 x2) (k0_pay15 (S0 x0)) x5 xs1 (MB (k0_pay12 x2) (k0_pay15 (S0 x0)) x5 xs1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3)]
  unfold kernelRun0_C
  dsimp only
  sl_unfold_words
  rw [View.canon_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, YB]

theorem sout_C_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3 = AB (k0_pay12 x2) (k0_pay15 (S0 x0)) (k0_pay16 (S0 x1)) x5 x6 xs1 (MB (k0_pay12 x2) (k0_pay15 (S0 x0)) x5 xs1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3)]
  unfold kernelRun0_C
  dsimp only
  sl_unfold_words
  rw [View.canon_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, YB]

theorem out_C_7 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : ¬cond0_0 i) (hc1 : cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) (xo8 : Vec F S1x1x64 .fp8e4m3) (xo9 : Vec F S1x1x64 .fp8e4m3) (xs1 : Vec F S16x1 .f32) (xs2 : Vec F S16x128 .f32) (xs3 : Vec F S16x64 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3 = YB (LB (k0_pay12 x2) (k0_pay15 (S0 x0)) x5 xs1 (MB (k0_pay12 x2) (k0_pay15 (S0 x0)) x5 xs1) xs2) (AB (k0_pay12 x2) (k0_pay15 (S0 x0)) (k0_pay16 (S0 x1)) x5 x6 xs1 (MB (k0_pay12 x2) (k0_pay15 (S0 x0)) x5 xs1) xs3) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo8 xo9 xs1 xs2 xs3)]
  unfold kernelRun0_C
  dsimp only
  sl_unfold_words
  rw [View.canon_unit_zero hz3]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, YB]

theorem sout_A_1 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = (MB (k0_pay12 x2) (k0_pay15 (S0 x0)) x5 (IM x0 x2 x3)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  rfl

theorem sout_A_2 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = LB (k0_pay12 x2) (k0_pay15 (S0 x0)) x5 (IM x0 x2 x3) (MB (k0_pay12 x2) (k0_pay15 (S0 x0)) x5 (IM x0 x2 x3)) IL := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, IM, IA, IL, k0_pay5, k0_pay6, k0_pay9, k0_pay10, k0_pay11]

theorem sout_A_3 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = AB (k0_pay12 x2) (k0_pay15 (S0 x0)) (k0_pay16 (S0 x1)) x5 x6 (IM x0 x2 x3) (MB (k0_pay12 x2) (k0_pay15 (S0 x0)) x5 (IM x0 x2 x3)) (IA x1 x4) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero hz2]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rw [← S0]
  rw [← S0]
  simp only [k0_pay2, k0_pay3, k0_pay4, shapeCast_self, k0_pay1, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, LB, LS, PB, AB, AV, DQ, SB, IM, IA, IL, k0_pay5, k0_pay6, k0_pay9, k0_pay10, k0_pay11]

theorem out_A_8 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay7 (k0_pay13 (S0 x0)) x3 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero hz3]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rfl

theorem out_A_9 (c : Dev nD) (i : grid0.Coords) (arg2 : Memref sig .tc .smem S1 .f32) (harg2 : arg2.IsWhole) (arg3 : Memref sig .tc .smem S1 .f32) (harg3 : arg3.IsWhole) (arg4 : Memref sig .tc .vmem S1x16x64 .bf16) (harg4 : arg4.IsWhole) (arg5 : Memref sig .tc .vmem S1x1x64 .bf16) (harg5 : arg5.IsWhole) (arg6 : Memref sig .tc .vmem S1x1x64 .bf16) (harg6 : arg6.IsWhole) (arg7 : Memref sig .tc .vmem S1x64x8192 .fp8e4m3) (harg7 : arg7.IsWhole) (arg8 : Memref sig .tc .vmem S1x64x8192 .fp8e4m3) (harg8 : arg8.IsWhole) (arg9 : Memref sig .tc .vmem S1x16x64 .bf16) (harg9 : arg9.IsWhole) (arg10 : Memref sig .tc .vmem S1x1x64 .fp8e4m3) (harg10 : arg10.IsWhole) (arg11 : Memref sig .tc .vmem S1x1x64 .fp8e4m3) (harg11 : arg11.IsWhole) (arg12 : Memref sig .tc .vmem S16x8192 .f32) (harg12 : arg12.IsWhole) (arg13 : Memref sig .tc .vmem S16x1 .f32) (harg13 : arg13.IsWhole) (arg14 : Memref sig .tc .vmem S16x128 .f32) (harg14 : arg14.IsWhole) (arg15 : Memref sig .tc .vmem S16x64 .f32) (harg15 : arg15.IsWhole) (hc0 : cond0_0 i) (hc1 : ¬cond0_1 i) (x0 : Vec F S1 .f32) (x1 : Vec F S1 .f32) (x2 : Vec F S1x16x64 .bf16) (x3 : Vec F S1x1x64 .bf16) (x4 : Vec F S1x1x64 .bf16) (x5 : Vec F S1x64x8192 .fp8e4m3) (x6 : Vec F S1x64x8192 .fp8e4m3) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay8 (k0_pay14 (S0 x1)) x4 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero hz3]
  simp (disch := decide) only [↓View.readCov_skip, ↓View.readCov_cons_toLoadRect, View.readAt_eq_ld, harg2.read_unread, harg3.read_unread, harg4.read_unread, harg5.read_unread, harg6.read_unread, harg7.read_unread, harg8.read_unread, harg13.read_unread, harg14.read_unread, harg15.read_unread, ld_k0, ld_k1, ld_k2, ld_k3, ld_k4, ld_k5, ld_k6, ld_k7, ld_q, ld_n, ld_m, ld_l, ld_a, stored0, stored1, stored2, stored3, stored4, stored5, stored6, stored7, max_stored, alpha_eq, scaled_eq]
  rfl

end Cert.KernelIdeal.Value
end
-- ==== Proof.Value.Online.lean ====
/- The mathematics of the online softmax over the extended reals: the weight of a score against a maximum, how it carries over
   to a larger maximum, and sums and maxima taken block by block. -/
module

public import Idealize.ShloMosaic.PureOps.Ideal
public import Mathlib.Data.EReal.Operations
public import Mathlib.Analysis.SpecialFunctions.Pow.Real

@[expose] public section

namespace Online

open Idealize.ShloMosaic

/-- The factor in the exponent: one eighth of the logarithm of `e` to base two. -/
noncomputable def c2 : ℝ := (1/8) * (Real.log 2)⁻¹

theorem c2_pos : 0 < c2 := by
  have := Real.log_pos (one_lt_two)
  unfold c2; positivity

/-- The weight of the score `a` against the maximum `m`. -/
noncomputable def W (a m : EReal) : EReal := Ideal.exp2 (a * (c2 : EReal) - m * (c2 : EReal))

theorem exp2_coe (r : ℝ) : Ideal.exp2 (r : EReal) = ((Real.rpow 2 r : ℝ) : EReal) := rfl
theorem exp2_bot : Ideal.exp2 ⊥ = 0 := rfl
theorem exp2_top : Ideal.exp2 ⊤ = ⊤ := rfl

theorem W_coe (a m : ℝ) : W a m = (((2 : ℝ) ^ ((a - m) * c2) : ℝ) : EReal) := by
  unfold W
  rw [← EReal.coe_mul, ← EReal.coe_mul, ← EReal.coe_sub, exp2_coe, ← sub_mul]; rfl

theorem W_bot (m : EReal) : W ⊥ m = 0 := by
  unfold W
  rw [EReal.bot_mul_coe_of_pos c2_pos, EReal.bot_sub, exp2_bot]

theorem W_top (a : EReal) : W a ⊤ = 0 := by
  unfold W
  rw [EReal.top_mul_coe_of_pos c2_pos, EReal.sub_top, exp2_bot]

theorem W_nonneg (a m : EReal) : 0 ≤ W a m := by
  unfold W
  generalize a * (c2 : EReal) - m * (c2 : EReal) = z
  induction z using EReal.rec with
  | bot => rw [exp2_bot]
  | top => rw [exp2_top]; exact le_top
  | coe r => rw [exp2_coe]; exact_mod_cast (Real.rpow_pos_of_pos two_pos r).le

theorem W_ne_top {a m : EReal} (h : a ≤ m) : W a m ≠ ⊤ := by
  induction m using EReal.rec with
  | bot => rw [le_bot_iff.1 h, W_bot]; simp
  | top => rw [W_top]; simp
  | coe m =>
    induction a using EReal.rec with
    | bot => rw [W_bot]; simp
    | top => exact absurd (top_le_iff.1 h) (EReal.coe_ne_top m)
    | coe a => rw [W_coe]; exact EReal.coe_ne_top _

/-- A weight carries over from one maximum to a larger one by the weight of the one against the other. -/
theorem W_mul {a b c : EReal} (hab : a ≤ b) (hbc : b ≤ c) : W a b * W b c = W a c := by
  induction c using EReal.rec with
  | bot =>
    have hb : b = ⊥ := le_bot_iff.1 hbc
    subst hb
    rw [le_bot_iff.1 hab, W_bot, zero_mul]
  | top => rw [W_top, W_top, mul_zero]
  | coe c =>
    induction b using EReal.rec with
    | bot => rw [le_bot_iff.1 hab, W_bot, W_bot, zero_mul]
    | top => exact absurd (top_le_iff.1 hbc) (EReal.coe_ne_top c)
    | coe b =>
      induction a using EReal.rec with
      | bot => rw [W_bot, W_bot, zero_mul]
      | top => exact absurd (top_le_iff.1 hab) (EReal.coe_ne_top b)
      | coe a =>
        rw [W_coe, W_coe, W_coe, ← EReal.coe_mul, ← Real.rpow_add two_pos]
        congr 2; ring

/-- The kernel's own form of the factor: the difference of the two maxima, scaled. -/
theorem exp2_sub_mul (a m : EReal) : Ideal.exp2 ((a - m) * (c2 : EReal)) = W a m := by
  unfold W
  congr 1
  have h := c2_pos
  induction a using EReal.rec with
  | bot => rw [EReal.bot_sub, EReal.bot_mul_coe_of_pos h, EReal.bot_sub]
  | top =>
    induction m using EReal.rec with
    | bot => simp [EReal.top_mul_coe_of_pos h, EReal.bot_mul_coe_of_pos h]
    | top => simp [EReal.top_mul_coe_of_pos h, EReal.bot_mul_coe_of_pos h]
    | coe m => simp [EReal.top_mul_coe_of_pos h, ← EReal.coe_mul]
  | coe a =>
    induction m using EReal.rec with
    | bot => simp [EReal.top_mul_coe_of_pos h, EReal.bot_mul_coe_of_pos h, ← EReal.coe_mul]
    | top => simp [EReal.top_mul_coe_of_pos h, EReal.bot_mul_coe_of_pos h, ← EReal.coe_mul]
    | coe m => rw [← EReal.coe_sub, ← EReal.coe_mul, ← EReal.coe_mul, ← EReal.coe_mul, ← EReal.coe_sub, sub_mul]

theorem exp_coe (r : ℝ) : Ideal.exp (r : EReal) = ((Real.exp r : ℝ) : EReal) := rfl
theorem exp_bot : Ideal.exp ⊥ = 0 := rfl
theorem exp_top : Ideal.exp ⊤ = ⊤ := rfl

/-- The reference's form of the weight: the natural exponential of the difference of the scaled scores. -/
theorem exp_eighth (a m : EReal) : Ideal.exp (a * ((1/8 : ℝ) : EReal) - m * ((1/8 : ℝ) : EReal)) = W a m := by
  have h := c2_pos
  have h8 : (0 : ℝ) < 1/8 := by norm_num
  unfold W
  induction a using EReal.rec with
  | bot => rw [EReal.bot_mul_coe_of_pos h8, EReal.bot_mul_coe_of_pos h, EReal.bot_sub, EReal.bot_sub]; rfl
  | top =>
    induction m using EReal.rec with
    | bot => rw [EReal.top_mul_coe_of_pos h8, EReal.top_mul_coe_of_pos h, EReal.bot_mul_coe_of_pos h8, EReal.bot_mul_coe_of_pos h]; rfl
    | top => rw [EReal.top_mul_coe_of_pos h8, EReal.top_mul_coe_of_pos h]; rfl
    | coe m => rw [EReal.top_mul_coe_of_pos h8, EReal.top_mul_coe_of_pos h, ← EReal.coe_mul, ← EReal.coe_mul]; rfl
  | coe a =>
    induction m using EReal.rec with
    | bot => rw [EReal.bot_mul_coe_of_pos h8, EReal.bot_mul_coe_of_pos h, ← EReal.coe_mul, ← EReal.coe_mul]; rfl
    | top => rw [EReal.top_mul_coe_of_pos h8, EReal.top_mul_coe_of_pos h, EReal.sub_top, EReal.sub_top]; rfl
    | coe m =>
      rw [← EReal.coe_mul, ← EReal.coe_mul, ← EReal.coe_mul, ← EReal.coe_mul, ← EReal.coe_sub, ← EReal.coe_sub, exp_coe, exp2_coe]
      congr 1
      show Real.exp _ = (2 : ℝ) ^ (_ : ℝ)
      rw [Real.rpow_def_of_pos two_pos]
      congr 1
      have : Real.log 2 ≠ 0 := (Real.log_pos one_lt_two).ne'
      unfold c2
      field_simp

theorem mul_eighth_mono {a b : EReal} (h : a ≤ b) : a * ((1/8 : ℝ) : EReal) ≤ b * ((1/8 : ℝ) : EReal) :=
  mul_le_mul_of_nonneg_right h (by exact_mod_cast (by norm_num : (0 : ℝ) ≤ 1/8))

theorem max_mul_eighth (a b : EReal) :
    max (a * ((1/8 : ℝ) : EReal)) (b * ((1/8 : ℝ) : EReal)) = max a b * ((1/8 : ℝ) : EReal) := by
  rcases le_total a b with h | h
  · rw [max_eq_right h, max_eq_right (mul_eighth_mono h)]
  · rw [max_eq_left h, max_eq_left (mul_eighth_mono h)]

/-- The maximum of the new token's score and the first `n` scores. -/
noncomputable def M (s0 : EReal) (s : ℕ → EReal) (n : ℕ) : EReal := max s0 ((Finset.range n).sup s)

theorem M_zero (s0 : EReal) (s : ℕ → EReal) : M s0 s 0 = s0 := by simp [M]

theorem M_le_iff (s0 : EReal) (s : ℕ → EReal) (n : ℕ) (b : EReal) : M s0 s n ≤ b ↔ s0 ≤ b ∧ ∀ t < n, s t ≤ b := by
  simp [M, Finset.sup_le_iff]

theorem M_mono (s0 : EReal) (s : ℕ → EReal) {n n' : ℕ} (h : n ≤ n') : M s0 s n ≤ M s0 s n' :=
  max_le_max le_rfl (Finset.sup_mono (Finset.range_mono h))

theorem le_M (s0 : EReal) (s : ℕ → EReal) {n t : ℕ} (h : t < n) : s t ≤ M s0 s n :=
  ((M_le_iff s0 s n _).1 le_rfl).2 t h

theorem le_M0 (s0 : EReal) (s : ℕ → EReal) (n : ℕ) : s0 ≤ M s0 s n := le_max_left _ _

/-- The maximum after `k` more scores, read as the old maximum against the new ones. -/
theorem M_add (s0 : EReal) (s : ℕ → EReal) (n k : ℕ) {x : EReal} (hx : ∀ b, x ≤ b ↔ M s0 s n ≤ b ∧ ∀ t < k, s (n + t) ≤ b) :
    x = M s0 s (n + k) := by
  refine eq_of_forall_ge_iff fun b => ?_
  rw [hx, M_le_iff, M_le_iff]
  constructor
  · rintro ⟨⟨h0, h1⟩, h2⟩
    refine ⟨h0, fun t ht => ?_⟩
    by_cases h : t < n
    · exact h1 t h
    · have := h2 (t - n) (by omega)
      rwa [show n + (t - n) = t by omega] at this
  · rintro ⟨h0, h1⟩
    exact ⟨⟨h0, fun t ht => h1 t (by omega)⟩, fun t ht => h1 _ (by omega)⟩

/-- The weighted sum of the new token's contribution `f0` and the first `n` contributions, against the maximum `M n`. -/
noncomputable def A (s0 : EReal) (s : ℕ → EReal) (f0 : EReal) (f : ℕ → EReal) (n : ℕ) : EReal :=
  W s0 (M s0 s n) * f0 + ∑ t ∈ Finset.range n, W (s t) (M s0 s n) * f t

theorem sum_mul_W {ι : Type*} (S : Finset ι) (g : ι → EReal) {w : EReal} (h0 : 0 ≤ w) (h1 : w ≠ ⊤) :
    (∑ t ∈ S, g t) * w = ∑ t ∈ S, g t * w := by
  classical
  induction S using Finset.induction_on with
  | empty => simp
  | insert a S ha ih =>
    rw [Finset.sum_insert ha, Finset.sum_insert ha, EReal.right_distrib_of_nonneg_of_ne_top h0 h1, ih]

/-- One block step of the weighted sum. -/
theorem A_add (s0 : EReal) (s : ℕ → EReal) (f0 : EReal) (f : ℕ → EReal) (n k : ℕ) :
    A s0 s f0 f n * W (M s0 s n) (M s0 s (n + k)) + ∑ t ∈ Finset.range k, W (s (n + t)) (M s0 s (n + k)) * f (n + t)
      = A s0 s f0 f (n + k) := by
  have hmono := M_mono s0 s (Nat.le_add_right n k)
  have h1 := W_ne_top hmono
  have h0 := W_nonneg (M s0 s n) (M s0 s (n + k))
  unfold A
  rw [EReal.right_distrib_of_nonneg_of_ne_top h0 h1, sum_mul_W _ _ h0 h1, Finset.sum_range_add, ← add_assoc]
  congr 2
  · rw [mul_right_comm, W_mul (le_M0 s0 s n) hmono]
  · refine Finset.sum_congr rfl fun t ht => ?_
    rw [mul_right_comm, W_mul (le_M s0 s (Finset.mem_range.1 ht)) hmono]

/-- The first block starts from the bare contribution of the new token. -/
theorem A_first (s0 : EReal) (s : ℕ → EReal) (f0 : EReal) (f : ℕ → EReal) (k : ℕ) :
    f0 * W s0 (M s0 s k) + ∑ t ∈ Finset.range k, W (s t) (M s0 s k) * f t = A s0 s f0 f k := by
  unfold A; rw [mul_comm]

/-- A sum over blocks and within them is the sum over all. -/
theorem sum_blocks (m n : ℕ) (f : ℕ → EReal) :
    ∑ c : Fin m, ∑ j : Fin n, f (n * c.val + j.val) = ∑ t ∈ Finset.range (m * n), f t := by
  induction m with
  | zero => simp
  | succ m ih =>
    rw [Fin.sum_univ_castSucc, Nat.succ_mul, Finset.sum_range_add]
    simp only [Fin.val_castSucc, Fin.val_last]
    rw [ih, Fin.sum_univ_eq_sum_range (fun j => f (n * m + j)) n, mul_comm n m]

/-- The lanes' sums of the weights add up to the sum of the weights. -/
theorem sum_lanes (s0 : EReal) (s : ℕ → EReal) (n : ℕ) :
    ∑ lane : Fin 128, A s0 s (if lane.val = 0 then 1 else 0) (fun t => if t % 128 = lane.val then 1 else 0) n
      = A s0 s 1 (fun _ => 1) n := by
  unfold A
  rw [Finset.sum_add_distrib, Finset.sum_comm]
  congr 1
  · rw [Finset.sum_eq_single (0 : Fin 128)]
    · simp
    · intro b _ hb
      rw [if_neg (fun h : b.val = 0 => hb (Fin.ext h)), mul_zero]
    · simp
  · refine Finset.sum_congr rfl fun t _ => ?_
    rw [Finset.sum_eq_single (⟨t % 128, Nat.mod_lt _ (by norm_num)⟩ : Fin 128)]
    · simp
    · intro b _ hb
      show _ * (if t % 128 = b.val then (1 : EReal) else 0) = 0
      rw [if_neg (fun h : t % 128 = b.val => hb (Fin.ext h.symm)), mul_zero]
    · simp

/-- One lane's share of a block of 8192: its 64 positions. -/
theorem sum_one_lane (lane : Fin 128) (w : ℕ → EReal) (n : ℕ) (hn : n % 128 = 0) :
    ∑ k ∈ Finset.range 64, w (128 * k + lane.val)
      = ∑ t ∈ Finset.range 8192, w t * (if (n + t) % 128 = lane.val then 1 else 0) := by
  rw [show 8192 = 64 * 128 by norm_num, ← sum_blocks 64 128, ← Fin.sum_univ_eq_sum_range (fun k => w (128 * k + lane.val)) 64]
  refine Finset.sum_congr rfl fun k _ => ?_
  rw [Finset.sum_eq_single lane]
  · have : (n + (128 * k.val + lane.val)) % 128 = lane.val := by have := lane.isLt; omega
    rw [if_pos this, mul_one]
  · intro b _ hb
    rw [if_neg (fun h => hb (Fin.ext ?_)), mul_zero]
    have := b.isLt; omega
  · simp

end Online
-- ==== Proof.Value.Spec.lean ====
/- What both programs compute, over plain functions: attention of a batch of grouped heads over the stored positions and
   the new one, whose numbers are quantised first. -/
module

public import proofs.«01_k».proof.Proof.Value.Online

@[expose] public section

noncomputable section

namespace Online

open Idealize.ShloMosaic

/-- A new token's number quantised: scaled by the reciprocal, clipped. -/
def qz (x s : EReal) : EReal :=
  min (Ideal.ofBits .f32 0x43E00000#32) (max (Ideal.ofBits .f32 0xC3E00000#32) (x * Ideal.div 1 s))

/-- The position a count stands for. -/
abbrev at_ (n : ℕ) : Fin 131072 := ⟨n % 131072, Nat.mod_lt _ (by norm_num)⟩

variable (Q : Fin 8 → Fin 16 → Fin 64 → EReal) (K : Fin 8 → Fin 131072 → Fin 64 → EReal) (U : Fin 8 → Fin 131072 → Fin 64 → EReal)
variable (kn vn : Fin 8 → Fin 64 → EReal) (ks vs : EReal)

/-- The score of a stored position. -/
def score (b : Fin 8) (h : Fin 16) (n : ℕ) : EReal := ∑ d : Fin 64, Q b h d * (K b (at_ n) d * ks)
/-- The score of the new position. -/
def score0 (b : Fin 8) (h : Fin 16) : EReal := ∑ d : Fin 64, Q b h d * (qz (kn b d) ks * ks)
/-- A number stored at a position. -/
def stored (b : Fin 8) (d : Fin 64) (n : ℕ) : EReal := U b (at_ n) d * vs
/-- The result: the weighted mean over the new position and all the stored ones. -/
def mean (b : Fin 8) (h : Fin 16) (d : Fin 64) : EReal :=
  Ideal.div (A (score0 Q kn ks b h) (score Q K ks b h) (qz (vn b d) vs * vs) (stored U vs b d) 131072)
    (A (score0 Q kn ks b h) (score Q K ks b h) 1 (fun _ => 1) 131072)

end Online
end
-- ==== Proof.Value.Entries.lean ====
/- The block step of the idealized kernel entry by entry over the extended reals. -/
module

public import proofs.«01_k».proof.Proof.Value.Read
public import proofs.«01_k».proof.Proof.Value.Spec
public import Idealize.ShloMosaic.Lib.Pointwise

@[expose] public section

set_option maxRecDepth 16384

noncomputable section

namespace Cert.KernelIdeal.Value

open Idealize.ShloMosaic Cert.KernelIdeal Cert.KernelIdeal.Gen Online

/-- Position `j` of chunk `c`. -/
abbrev cat (c : Fin 8) (j : Fin 1024) : Fin 8192 := ⟨1024 * c.val + j.val, by omega⟩
/-- Lane `l` of group `g`. -/
abbrev gat (g : Fin 8) (l : Fin 128) : Fin 1024 := ⟨128 * g.val + l.val, by omega⟩

theorem KC_apply (c : Fin 8) (k : Vec Ideal S1x64x8192 .fp8e4m3) (d : Fin 64) (j : Fin 1024) :
    KC c k (ix3 0 d j) = k (ix3 0 d (cat c j)) := by
  unfold KC
  pointwise

theorem q_apply (x2 : Vec Ideal S1x16x64 .bf16) (h : Fin 16) (d : Fin 64) : k0_pay12 x2 (ix2 h d) = x2 (ix3 0 h d) := by
  unfold k0_pay12
  pointwise

theorem S0_eq (x : Vec Ideal S1 .f32) : S0 x = x (ix1 0) := by
  unfold S0
  pointwise

theorem ks_apply (x : Vec Ideal S1 .f32) : k0_pay15 (S0 x) (ix2 0 0) = x (ix1 0) := by
  rw [S0_eq]
  unfold k0_pay15 k0_pay13
  pointwise

theorem vs_apply (x : Vec Ideal S1 .f32) : k0_pay16 (S0 x) (ix2 0 0) = x (ix1 0) := by
  rw [S0_eq]
  unfold k0_pay16 k0_pay14
  pointwise

theorem DQ_apply (s : FVec Ideal S1x1 .bf16) (k : Vec Ideal S1x64x1024 .fp8e4m3) (d : Fin 64) (j : Fin 1024) :
    DQ s k (ix2 d j) = k (ix3 0 d j) * s (ix2 0 0) := by
  unfold DQ
  pointwise

theorem SC_apply (q : FVec Ideal S16x64 .bf16) (s : FVec Ideal S1x1 .bf16) (k : Vec Ideal S1x64x1024 .fp8e4m3) (h : Fin 16) (j : Fin 1024) :
    SC q s k (ix2 h j) = ∑ d : Fin 64, q (ix2 h d) * (k (ix3 0 d j) * s (ix2 0 0)) := by
  have hd := DQ_apply s k
  unfold SC
  generalize DQ s k = D at hd
  simp only [← hd]
  pointwise

theorem AV_apply (s : FVec Ideal S1x1 .bf16) (a : FVec Ideal S16x64 .f32) (p : FVec Ideal S16x1024 .f32) (v : Vec Ideal S1x64x1024 .fp8e4m3)
    (h : Fin 16) (d : Fin 64) :
    AV s a p v (ix2 h d) = a (ix2 h d) + ∑ j : Fin 1024, p (ix2 h j) * (v (ix3 0 d j) * s (ix2 0 0)) := by
  have hd := DQ_apply s v
  unfold AV
  generalize DQ s v = D at hd
  simp only [← hd]
  pointwise

theorem MX_le (a : FVec Ideal S16x128 .f32) (s : FVec Ideal S16x1024 .f32) (h : Fin 16) (l : Fin 128) (b : EReal) :
    MX a s (ix2 h l) ≤ b ↔ a (ix2 h l) ≤ b ∧ ∀ g : Fin 8, s (ix2 h (gat g l)) ≤ b := by
  have e : MX a s (ix2 h l) = max (max (max (max (max (max (max (max (a (ix2 h l)) (s (ix2 h (gat 0 l)))) (s (ix2 h (gat 1 l)))) (s (ix2 h (gat 2 l))))
      (s (ix2 h (gat 3 l)))) (s (ix2 h (gat 4 l)))) (s (ix2 h (gat 5 l)))) (s (ix2 h (gat 6 l)))) (s (ix2 h (gat 7 l))) := by
    unfold MX gat
    pointwise
  rw [e]
  simp only [max_le_iff, Fin.forall_fin_succ, Fin.forall_fin_zero_pi, and_assoc]
  simp

theorem LS_apply (a : FVec Ideal S16x128 .f32) (s : FVec Ideal S16x1024 .f32) (h : Fin 16) (l : Fin 128) :
    LS a s (ix2 h l) = a (ix2 h l) + ∑ g : Fin 8, s (ix2 h (gat g l)) := by
  have e : LS a s (ix2 h l) = (a (ix2 h l)) + (s (ix2 h (gat 0 l))) + (s (ix2 h (gat 1 l))) + (s (ix2 h (gat 2 l)))
      + (s (ix2 h (gat 3 l))) + (s (ix2 h (gat 4 l))) + (s (ix2 h (gat 5 l))) + (s (ix2 h (gat 6 l))) + (s (ix2 h (gat 7 l))) := by
    unfold LS gat
    pointwise
  rw [e, Fin.sum_univ_eight]
  simp only [add_assoc]

theorem c2_named : (Named.named (F := Ideal) κ "scale_log2e" (φ := .f32) 0x3E38AA3B#32) = ((c2 : ℝ) : EReal) :=
  IdealRules.named_const.ideal_named_scalar _ _ _ _ rfl

theorem PB_apply (m' : FVec Ideal S16x1 .f32) (s : FVec Ideal S16x1024 .f32) (h : Fin 16) (j : Fin 1024) :
    PB m' s (ix2 h j) = W (s (ix2 h j)) (m' (ix2 h 0)) := by
  unfold PB W
  rw [c2_named]
  pointwise
  rfl

theorem AL_apply (m m' : FVec Ideal S16x1 .f32) (h : Fin 16) :
    AL m m' (ix2 h 0) = W (m (ix2 h 0)) (m' (ix2 h 0)) := by
  rw [← exp2_sub_mul]
  unfold AL
  rw [c2_named]
  pointwise
  rfl

/-- The score of position `t` of a block. -/
def sblk (x0 : Vec Ideal S1 .f32) (x2 : Vec Ideal S1x16x64 .bf16) (x5 : Vec Ideal S1x64x8192 .fp8e4m3) (h : Fin 16) (t : Fin 8192) : EReal :=
  ∑ d : Fin 64, x2 (ix3 0 h d) * (x5 (ix3 0 d t) * x0 (ix1 0))

theorem SB_apply (x0 : Vec Ideal S1 .f32) (x2 : Vec Ideal S1x16x64 .bf16) (x5 : Vec Ideal S1x64x8192 .fp8e4m3) (c : Fin 8) (h : Fin 16) (j : Fin 1024) :
    SB (k0_pay12 x2) (k0_pay15 (S0 x0)) x5 c (ix2 h j) = sblk x0 x2 x5 h (cat c j) := by
  unfold SB sblk
  rw [SC_apply]
  simp only [q_apply, KC_apply, ks_apply]

/-- Every position of a block is a lane of a group of a chunk. -/
theorem forall_cat (P : Fin 8192 → Prop) : (∀ (l : Fin 128) (c g : Fin 8), P (cat c (gat g l))) ↔ ∀ t, P t := by
  refine ⟨fun h t => ?_, fun h l c g => h _⟩
  have := h ⟨t.val % 128, by omega⟩ ⟨t.val / 1024, by omega⟩ ⟨t.val % 1024 / 128, by omega⟩
  have e : cat ⟨t.val / 1024, by omega⟩ (gat ⟨t.val % 1024 / 128, by omega⟩ ⟨t.val % 128, by omega⟩) = t := Fin.ext (by
    show 1024 * (t.val / 1024) + (128 * (t.val % 1024 / 128) + t.val % 128) = t.val
    omega)
  rwa [e] at this

theorem ninf : Ideal.ofBits .f32 0xFF800000#32 = ⊥ := by simp [Ideal.ofBits, Ideal.ieee]

theorem MB_le (x0 : Vec Ideal S1 .f32) (x2 : Vec Ideal S1x16x64 .bf16) (x5 : Vec Ideal S1x64x8192 .fp8e4m3) (m : FVec Ideal S16x1 .f32) (h : Fin 16) (b : EReal) :
    MB (k0_pay12 x2) (k0_pay15 (S0 x0)) x5 m (ix2 h 0) ≤ b ↔ m (ix2 h 0) ≤ b ∧ ∀ t, sblk x0 x2 x5 h t ≤ b := by
  have hm (a : FVec Ideal S16x128 .f32) : maximumf m (shapeCast S16x1 (multiReduction .maximumf [1] S16 a
      0xFF800000#32 reduces_S16x128_S16 (.inl rfl) rfl) shapeCasts_S16_S16x1) (ix2 h 0)
      = max (m (ix2 h 0)) (Finset.univ.fold max (⊥ : EReal) fun l : Fin 128 => a (ix2 h l)) := by
    pointwise
    rw [ninf]
  unfold MB
  rw [hm, max_le_iff, Finset.fold_max_le, ← forall_cat]
  simp only [MX_le, SB_apply]
  have hb (x : Fin 128) : broadcast S16x128 (Scalar.ofBits (F := Ideal) .f32 0xFF800000#32) (ix2 h x) ≤ b ↔ True := by
    refine iff_true_intro ?_
    show Ideal.ofBits .f32 0xFF800000#32 ≤ b
    rw [ninf]; exact bot_le
  simp only [hb, bot_le, true_and, Finset.mem_univ, forall_true_left]
  refine and_congr_right fun _ => forall_congr' fun l => ?_
  constructor
  · rintro ⟨⟨⟨⟨⟨⟨⟨h0, h1⟩, h2⟩, h3⟩, h4⟩, h5⟩, h6⟩, h7⟩ c g
    fin_cases c
    exacts [h0 g, h1 g, h2 g, h3 g, h4 g, h5 g, h6 g, h7 g]
  · intro H
    exact ⟨⟨⟨⟨⟨⟨⟨H 0, H 1⟩, H 2⟩, H 3⟩, H 4⟩, H 5⟩, H 6⟩, H 7⟩

theorem LB_apply (x0 : Vec Ideal S1 .f32) (x2 : Vec Ideal S1x16x64 .bf16) (x5 : Vec Ideal S1x64x8192 .fp8e4m3) (m m' : FVec Ideal S16x1 .f32)
    (l : FVec Ideal S16x128 .f32) (h : Fin 16) (lane : Fin 128) (s : ℕ → EReal) (n : ℕ) (hn : n % 128 = 0)
    (hs : ∀ t : Fin 8192, sblk x0 x2 x5 h t = s (n + t.val)) :
    LB (k0_pay12 x2) (k0_pay15 (S0 x0)) x5 m m' l (ix2 h lane) = l (ix2 h lane) * W (m (ix2 h 0)) (m' (ix2 h 0))
      + ∑ t ∈ Finset.range 8192, W (s (n + t)) (m' (ix2 h 0)) * (if (n + t) % 128 = lane.val then 1 else 0) := by
  have h0 : mulf l (broadcastTo S16x128 (AL m m') broadcasts_S16x1_S16x128) (ix2 h lane) = l (ix2 h lane) * W (m (ix2 h 0)) (m' (ix2 h 0)) := by
    rw [← AL_apply]
    generalize AL m m' = al
    pointwise
  unfold LB
  simp only [LS_apply, PB_apply, SB_apply, hs, h0]
  rw [← sum_one_lane lane (fun t => W (s (n + t)) (m' (ix2 h 0))) n hn, ← sum_blocks 8 8 (fun k => W (s (n + (128 * k + lane.val))) (m' (ix2 h 0)))]
  refine Eq.trans ?_ (congrArg (fun z => _ + z) (Fin.sum_univ_eight _).symm)
  simp only [add_assoc]
  have e (c g : ℕ) : n + (128 * (8 * c + g) + lane.val) = n + (1024 * c + (128 * g + lane.val)) := by ring
  simp only [e]

theorem AB_apply (x0 x1 : Vec Ideal S1 .f32) (x2 : Vec Ideal S1x16x64 .bf16) (x5 x6 : Vec Ideal S1x64x8192 .fp8e4m3) (m m' : FVec Ideal S16x1 .f32)
    (a : FVec Ideal S16x64 .f32) (h : Fin 16) (d : Fin 64) (s v : ℕ → EReal) (n : ℕ)
    (hs : ∀ t : Fin 8192, sblk x0 x2 x5 h t = s (n + t.val)) (hv : ∀ t : Fin 8192, x6 (ix3 0 d t) * x1 (ix1 0) = v (n + t.val)) :
    AB (k0_pay12 x2) (k0_pay15 (S0 x0)) (k0_pay16 (S0 x1)) x5 x6 m m' a (ix2 h d) = a (ix2 h d) * W (m (ix2 h 0)) (m' (ix2 h 0))
      + ∑ t ∈ Finset.range 8192, W (s (n + t)) (m' (ix2 h 0)) * v (n + t) := by
  have h0 : mulf a (broadcastTo S16x64 (AL m m') broadcasts_S16x1_S16x64) (ix2 h d) = a (ix2 h d) * W (m (ix2 h 0)) (m' (ix2 h 0)) := by
    rw [← AL_apply]
    generalize AL m m' = al
    pointwise
  unfold AB
  simp only [AV_apply, PB_apply, SB_apply, KC_apply, vs_apply, hs, hv, h0]
  rw [← show 8 * 1024 = 8192 from rfl, ← sum_blocks 8 1024 (fun t => W (s (n + t)) (m' (ix2 h 0)) * v (n + t)), Fin.sum_univ_eight]
  simp only [add_assoc]

theorem YB_apply (l : FVec Ideal S16x128 .f32) (a : FVec Ideal S16x64 .f32) (h : Fin 16) (d : Fin 64) :
    YB l a (ix3 0 h d) = Ideal.div (a (ix2 h d)) (∑ lane : Fin 128, l (ix2 h lane)) := by
  unfold YB
  pointwise

theorem codesK_apply (x0 : Vec Ideal S1 .f32) (x3 : Vec Ideal S1x1x64 .bf16) (d : Fin 64) :
    k0_pay5 (k0_pay13 (S0 x0)) x3 (ix2 0 d) = qz (x3 (ix3 0 0 d)) (x0 (ix1 0)) := by
  rw [S0_eq]
  unfold k0_pay5 k0_pay13 qz
  pointwise

theorem codesV_apply (x0 : Vec Ideal S1 .f32) (x3 : Vec Ideal S1x1x64 .bf16) (d : Fin 64) :
    k0_pay6 (k0_pay14 (S0 x0)) x3 (ix2 0 d) = qz (x3 (ix3 0 0 d)) (x0 (ix1 0)) := by
  rw [S0_eq]
  unfold k0_pay6 k0_pay14 qz
  pointwise

theorem storedK_apply (x0 : Vec Ideal S1 .f32) (x3 : Vec Ideal S1x1x64 .bf16) (d : Fin 64) :
    k0_pay7 (k0_pay13 (S0 x0)) x3 (ix3 0 0 d) = qz (x3 (ix3 0 0 d)) (x0 (ix1 0)) := by
  rw [← codesK_apply]
  unfold k0_pay7
  generalize k0_pay5 (k0_pay13 (S0 x0)) x3 = z
  pointwise

theorem storedV_apply (x0 : Vec Ideal S1 .f32) (x3 : Vec Ideal S1x1x64 .bf16) (d : Fin 64) :
    k0_pay8 (k0_pay14 (S0 x0)) x3 (ix3 0 0 d) = qz (x3 (ix3 0 0 d)) (x0 (ix1 0)) := by
  rw [← codesV_apply]
  unfold k0_pay8
  generalize k0_pay6 (k0_pay14 (S0 x0)) x3 = z
  pointwise

/-- The first maximum is the new token's score. -/
theorem IM_apply (x0 : Vec Ideal S1 .f32) (x2 : Vec Ideal S1x16x64 .bf16) (x3 : Vec Ideal S1x1x64 .bf16) (h : Fin 16) :
    IM x0 x2 x3 (ix2 h 0) = ∑ d : Fin 64, x2 (ix3 0 h d) * (qz (x3 (ix3 0 0 d)) (x0 (ix1 0)) * x0 (ix1 0)) := by
  have hk := codesK_apply x0 x3
  have hq := q_apply x2
  have hs := ks_apply x0
  unfold IM k0_pay17 k0_pay10 k0_pay11
  generalize k0_pay5 (k0_pay13 (S0 x0)) x3 = z at hk
  generalize k0_pay12 x2 = q at hq
  generalize k0_pay15 (S0 x0) = s at hs
  simp only [← hk, ← hq]
  rw [← hs]
  pointwise

theorem IL_apply (h : Fin 16) (lane : Fin 128) : IL (F := Ideal) (ix2 h lane) = if lane.val = 0 then 1 else 0 := by
  unfold IL k0_pay18
  pointwise
  have e : IntOp.cmpi CmpIPredicate.eq (BitVec.ofNat 32 lane.val) 0#32 = if lane.val = 0 then 1#1 else 0#1 := by revert lane; decide
  rw [e]
  split <;> rfl

theorem IA_apply (x1 : Vec Ideal S1 .f32) (x4 : Vec Ideal S1x1x64 .bf16) (h : Fin 16) (d : Fin 64) :
    IA x1 x4 (ix2 h d) = qz (x4 (ix3 0 0 d)) (x1 (ix1 0)) * x1 (ix1 0) := by
  have hk := codesV_apply x1 x4 d
  have hs := vs_apply x1
  unfold IA k0_pay19 k0_pay9
  generalize k0_pay6 (k0_pay14 (S0 x1)) x4 = z at hk
  generalize k0_pay16 (S0 x1) = s at hs
  rw [← hk, ← hs]
  pointwise

end Cert.KernelIdeal.Value
end
-- ==== Proof.Value.Blocks.lean ====
/- The windows' blocks of the idealized kernel, entry by entry, as entries of the arrays. -/
module

public import proofs.«01_k».proof.Proof.Steps.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Cert.KernelIdeal Cert.KernelIdeal.Gen
open Idealize.ShloMosaic.Pipeline (Dat)

variable {F : FTy → Type} [FloatOps F] [Named F]
variable (m : (ℓ : Loc nD τ sig) → Buf (Elt F) ℓ)

/-- The batch of a grid point. -/
abbrev bat (t : Fin cfg0.N) : Fin 8 := ⟨t.val / 16, by have := t.isLt; have : cfg0.N = 128 := N_0; omega⟩
/-- Position `j` of a grid point's block. -/
abbrev pos (t : Fin cfg0.N) (j : Fin 8192) : Fin 131072 := ⟨8192 * (t.val % 16) + j.val, by omega⟩

theorem idx_0 : ∀ t : Fin grid0.N, win0_0.index t = ![0] := by decide +kernel
theorem idx_1 : ∀ t : Fin grid0.N, win0_1.index t = ![0] := by decide +kernel
theorem idx_2 : ∀ t : Fin grid0.N, win0_2.index t = ![t.val / 16, 0, 0] := by decide +kernel
theorem idx_3 : ∀ t : Fin grid0.N, win0_3.index t = ![t.val / 16, 0, 0] := by decide +kernel
theorem idx_4 : ∀ t : Fin grid0.N, win0_4.index t = ![t.val / 16, 0, 0] := by decide +kernel
theorem idx_5 : ∀ t : Fin grid0.N, win0_5.index t = ![t.val / 16, 0, t.val % 16] := by decide +kernel
theorem idx_6 : ∀ t : Fin grid0.N, win0_6.index t = ![t.val / 16, 0, t.val % 16] := by decide +kernel
theorem idx_7 : ∀ t : Fin grid0.N, win0_7.index t = ![t.val / 16, 0, 0] := by decide +kernel
theorem idx_8 : ∀ t : Fin grid0.N, win0_8.index t = ![t.val / 16, 0, 0] := by decide +kernel
theorem idx_9 : ∀ t : Fin grid0.N, win0_9.index t = ![t.val / 16, 0, 0] := by decide +kernel

theorem blk_0 (c : Dev nD) (t : Fin cfg0.N) : (iblk m c 0 t : Vec F S1 .f32) (ix1 0) = (V m c main_arg4 : Vec F S1 .f32) (ix1 0) := by
  unfold iblk
  rw [View.read_apply]
  refine congrArg (V m c main_arg4) ?_
  blk_ext [idx_0]
theorem blk_1 (c : Dev nD) (t : Fin cfg0.N) : (iblk m c 1 t : Vec F S1 .f32) (ix1 0) = (V m c main_arg6 : Vec F S1 .f32) (ix1 0) := by
  unfold iblk
  rw [View.read_apply]
  refine congrArg (V m c main_arg6) ?_
  blk_ext [idx_1]
theorem blk_2 (c : Dev nD) (t : Fin cfg0.N) (h : Fin 16) (d : Fin 64) :
    (iblk m c 2 t : Vec F S1x16x64 .bf16) (ix3 0 h d) = (V m c main_v0 : Vec F S8x16x64 .bf16) (ix3 (bat t) h d) := by
  unfold iblk
  rw [View.read_apply]
  refine congrArg (V m c main_v0) ?_
  blk_ext [idx_2]
theorem blk_3 (c : Dev nD) (t : Fin cfg0.N) (d : Fin 64) :
    (iblk m c 3 t : Vec F S1x1x64 .bf16) (ix3 0 0 d) = (V m c main_v5 : Vec F S8x1x64 .bf16) (ix3 (bat t) 0 d) := by
  unfold iblk
  rw [View.read_apply]
  refine congrArg (V m c main_v5) ?_
  blk_ext [idx_3]
theorem blk_4 (c : Dev nD) (t : Fin cfg0.N) (d : Fin 64) :
    (iblk m c 4 t : Vec F S1x1x64 .bf16) (ix3 0 0 d) = (V m c main_v6 : Vec F S8x1x64 .bf16) (ix3 (bat t) 0 d) := by
  unfold iblk
  rw [View.read_apply]
  refine congrArg (V m c main_v6) ?_
  blk_ext [idx_4]
theorem blk_5 (c : Dev nD) (t : Fin cfg0.N) (d : Fin 64) (j : Fin 8192) :
    (iblk m c 5 t : Vec F S1x64x8192 .fp8e4m3) (ix3 0 d j) = (V m c main_v2 : Vec F S8x64x131072 .fp8e4m3) (ix3 (bat t) d (pos t j)) := by
  unfold iblk
  rw [View.read_apply]
  refine congrArg (V m c main_v2) ?_
  blk_ext [idx_5]
theorem blk_6 (c : Dev nD) (t : Fin cfg0.N) (d : Fin 64) (j : Fin 8192) :
    (iblk m c 6 t : Vec F S1x64x8192 .fp8e4m3) (ix3 0 d j) = (V m c main_v4 : Vec F S8x64x131072 .fp8e4m3) (ix3 (bat t) d (pos t j)) := by
  unfold iblk
  rw [View.read_apply]
  refine congrArg (V m c main_v4) ?_
  blk_ext [idx_6]

/-! ## The arrays the region starts from, as the arguments -/

theorem ent_0 (c : Dev nD) (b : Fin 8) (h : Fin 16) (d : Fin 64) :
    (V m c main_v0 : Vec F S8x16x64 .bf16) (ix3 b h d) = (m (c.tc.loc main_arg0) : Vec F S8x1x1024 .bf16) (ix3 b 0 ⟨h.val * 64 + d.val, by omega⟩) := by
  simp only [V, V0, List.flatten_cons, List.flatten_nil, List.append_nil]
  after_results
  pointwise
theorem ent_5 (c : Dev nD) (b : Fin 8) (d : Fin 64) :
    (V m c main_v5 : Vec F S8x1x64 .bf16) (ix3 b 0 d) = (m (c.tc.loc main_arg1) : Vec F S8x1x1x64 .bf16) (ix4 b 0 0 d) := by
  simp only [V, V0, List.flatten_cons, List.flatten_nil, List.append_nil]
  after_results
  pointwise
theorem ent_6 (c : Dev nD) (b : Fin 8) (d : Fin 64) :
    (V m c main_v6 : Vec F S8x1x64 .bf16) (ix3 b 0 d) = (m (c.tc.loc main_arg2) : Vec F S8x1x1x64 .bf16) (ix4 b 0 0 d) := by
  simp only [V, V0, List.flatten_cons, List.flatten_nil, List.append_nil]
  after_results
  pointwise
theorem ent_2 (c : Dev nD) (b : Fin 8) (d : Fin 64) (n : Fin 131072) :
    (V m c main_v2 : Vec F S8x64x131072 .fp8e4m3) (ix3 b d n) = (m (c.tc.loc main_arg3) : Vec F S8x131072x1x64 .fp8e4m3) (ix4 b n 0 d) := by
  simp only [V, V0, List.flatten_cons, List.flatten_nil, List.append_nil]
  after_results
  pointwise
theorem ent_4 (c : Dev nD) (b : Fin 8) (d : Fin 64) (n : Fin 131072) :
    (V m c main_v4 : Vec F S8x64x131072 .fp8e4m3) (ix3 b d n) = (m (c.tc.loc main_arg5) : Vec F S8x131072x1x64 .fp8e4m3) (ix4 b n 0 d) := by
  simp only [V, V0, List.flatten_cons, List.flatten_nil, List.append_nil]
  after_results
  pointwise

end Cert.KernelIdeal.Value
end
-- ==== Proof.Value.Fold.lean ====
/- What the idealized kernel's outputs and carried scratch hold after each grid point, entry by entry: by induction over
   the points of a batch, the running maximum, sum and weighted sum of the positions met so far. -/
module

public import proofs.«01_k».proof.Proof.Value.Entries
public import proofs.«01_k».proof.Proof.Value.Blocks

@[expose] public section

set_option maxRecDepth 16384

noncomputable section

namespace Cert.KernelIdeal.Value

open Idealize.ShloMosaic Idealize.ShloMosaic.TcCoe Cert.KernelIdeal Cert.KernelIdeal.Gen Online
open Idealize.ShloMosaic.Pipeline (Dat)

variable (m : (ℓ : Loc nD τ sig) → Buf (Elt Ideal) ℓ) (c : Dev nD)

/-! ## The arrays as plain functions -/

def aQ (b : Fin 8) (h : Fin 16) (d : Fin 64) : EReal := (V m c main_v0 : Vec Ideal S8x16x64 .bf16) (ix3 b h d)
def aK (b : Fin 8) (n : Fin 131072) (d : Fin 64) : EReal := (V m c main_v2 : Vec Ideal S8x64x131072 .fp8e4m3) (ix3 b d n)
def aU (b : Fin 8) (n : Fin 131072) (d : Fin 64) : EReal := (V m c main_v4 : Vec Ideal S8x64x131072 .fp8e4m3) (ix3 b d n)
def akn (b : Fin 8) (d : Fin 64) : EReal := (V m c main_v5 : Vec Ideal S8x1x64 .bf16) (ix3 b 0 d)
def avn (b : Fin 8) (d : Fin 64) : EReal := (V m c main_v6 : Vec Ideal S8x1x64 .bf16) (ix3 b 0 d)
def aks : EReal := (V m c main_arg4 : Vec Ideal S1 .f32) (ix1 0)
def avs : EReal := (V m c main_arg6 : Vec Ideal S1 .f32) (ix1 0)

/-- The new position's score. -/
abbrev S0_ (b : Fin 8) (h : Fin 16) : EReal := score0 (aQ m c) (akn m c) (aks m c) b h
/-- The stored positions' scores. -/
abbrev S_ (b : Fin 8) (h : Fin 16) : ℕ → EReal := score (aQ m c) (aK m c) (aks m c) b h
/-- The new position's number. -/
abbrev U0_ (b : Fin 8) (d : Fin 64) : EReal := qz (avn m c b d) (avs m c) * avs m c
/-- The stored positions' numbers. -/
abbrev U_ (b : Fin 8) (d : Fin 64) : ℕ → EReal := stored (aU m c) (avs m c) b d

theorem at_pos (t : Fin cfg0.N) (j : Fin 8192) : at_ (8192 * (t.val % 16) + j.val) = pos t j :=
  Fin.ext (Nat.mod_eq_of_lt (by omega))

theorem sblk_eq (t : Fin cfg0.N) (h : Fin 16) (j : Fin 8192) :
    sblk (iblk m c 0 t) (iblk m c 2 t) (iblk m c 5 t) h j = S_ m c (bat t) h (8192 * (t.val % 16) + j.val) := by
  unfold sblk S_ score
  rw [at_pos]
  refine Finset.sum_congr rfl fun d _ => ?_
  exact congrArg₂ (· * ·) (blk_2 m c t h d) (congrArg₂ (· * ·) (blk_5 m c t d j) (blk_0 m c t))

/-- The number stored at position `j` of a block. -/
def vblk (x1 : Vec Ideal S1 .f32) (x6 : Vec Ideal S1x64x8192 .fp8e4m3) (d : Fin 64) (j : Fin 8192) : EReal := x6 (ix3 0 d j) * x1 (ix1 0)

theorem vblk_eq (t : Fin cfg0.N) (d : Fin 64) (j : Fin 8192) :
    vblk (iblk m c 1 t) (iblk m c 6 t) d j = U_ m c (bat t) d (8192 * (t.val % 16) + j.val) := by
  unfold vblk U_ stored
  rw [at_pos]
  exact congrArg₂ (· * ·) (blk_6 m c t d j) (blk_1 m c t)

/-! ## One block -/

section Step
variable (t : Fin cfg0.N) (xm : FVec Ideal S16x1 .f32) (xl : FVec Ideal S16x128 .f32) (xa : FVec Ideal S16x64 .f32)

/-- The maximum after the block. -/
abbrev nm : FVec Ideal S16x1 .f32 := MB (k0_pay12 (iblk m c 2 t)) (k0_pay15 (S0 (iblk m c 0 t))) (iblk m c 5 t) xm

theorem nm_apply (h : Fin 16) (hm : xm (ix2 h 0) = M (S0_ m c (bat t) h) (S_ m c (bat t) h) (8192 * (t.val % 16))) :
    nm m c t xm (ix2 h 0) = M (S0_ m c (bat t) h) (S_ m c (bat t) h) (8192 * (t.val % 16) + 8192) := by
  refine M_add _ _ _ _ fun b => ?_
  rw [nm, MB_le, hm]
  refine and_congr_right fun _ => ⟨fun H j hj => ?_, fun H j => ?_⟩
  · rw [← sblk_eq m c t h ⟨j, hj⟩]; exact H _
  · rw [sblk_eq]; exact H _ j.isLt

theorem nl_apply (h : Fin 16) (lane : Fin 128) :
    LB (k0_pay12 (iblk m c 2 t)) (k0_pay15 (S0 (iblk m c 0 t))) (iblk m c 5 t) xm (nm m c t xm) xl (ix2 h lane)
      = xl (ix2 h lane) * W (xm (ix2 h 0)) (nm m c t xm (ix2 h 0))
        + ∑ j ∈ Finset.range 8192, W (S_ m c (bat t) h (8192 * (t.val % 16) + j)) (nm m c t xm (ix2 h 0))
            * (if (8192 * (t.val % 16) + j) % 128 = lane.val then 1 else 0) :=
  LB_apply _ _ _ _ _ _ h lane (S_ m c (bat t) h) (8192 * (t.val % 16)) (by omega) (sblk_eq m c t h)

theorem na_apply (h : Fin 16) (d : Fin 64) :
    AB (k0_pay12 (iblk m c 2 t)) (k0_pay15 (S0 (iblk m c 0 t))) (k0_pay16 (S0 (iblk m c 1 t))) (iblk m c 5 t) (iblk m c 6 t) xm (nm m c t xm) xa (ix2 h d)
      = xa (ix2 h d) * W (xm (ix2 h 0)) (nm m c t xm (ix2 h 0))
        + ∑ j ∈ Finset.range 8192, W (S_ m c (bat t) h (8192 * (t.val % 16) + j)) (nm m c t xm (ix2 h 0))
            * U_ m c (bat t) d (8192 * (t.val % 16) + j) :=
  AB_apply _ _ _ _ _ _ _ _ h d (S_ m c (bat t) h) (U_ m c (bat t) d) (8192 * (t.val % 16)) (sblk_eq m c t h) (vblk_eq m c t d)

end Step

/-! ## The scratch at a point, as the block step of what was there -/

theorem at_A_1 (t : Fin cfg0.N) (h0 : t.val % 16 = 0) (h1 : ¬t.val % 16 = 15) :
    (outsAt0 m c t.val t.isLt).2.2.2.1 = nm m c t (IM (iblk m c 0 t) (iblk m c 2 t) (iblk m c 3 t)) := by
  refine Eq.trans (congrArg (fun z => z.2.2.2.1) (outsAt0_A m c t h0 h1)) ?_
  dsimp only
  exact sout_A_1 (F := Ideal) ..
theorem at_A_2 (t : Fin cfg0.N) (h0 : t.val % 16 = 0) (h1 : ¬t.val % 16 = 15) :
    (outsAt0 m c t.val t.isLt).2.2.2.2.1 = LB (k0_pay12 (iblk m c 2 t)) (k0_pay15 (S0 (iblk m c 0 t))) (iblk m c 5 t)
      (IM (iblk m c 0 t) (iblk m c 2 t) (iblk m c 3 t)) (nm m c t (IM (iblk m c 0 t) (iblk m c 2 t) (iblk m c 3 t))) IL := by
  refine Eq.trans (congrArg (fun z => z.2.2.2.2.1) (outsAt0_A m c t h0 h1)) ?_
  dsimp only
  exact sout_A_2 (F := Ideal) ..
theorem at_A_3 (t : Fin cfg0.N) (h0 : t.val % 16 = 0) (h1 : ¬t.val % 16 = 15) :
    (outsAt0 m c t.val t.isLt).2.2.2.2.2 = AB (k0_pay12 (iblk m c 2 t)) (k0_pay15 (S0 (iblk m c 0 t))) (k0_pay16 (S0 (iblk m c 1 t))) (iblk m c 5 t) (iblk m c 6 t)
      (IM (iblk m c 0 t) (iblk m c 2 t) (iblk m c 3 t)) (nm m c t (IM (iblk m c 0 t) (iblk m c 2 t) (iblk m c 3 t))) (IA (iblk m c 1 t) (iblk m c 4 t)) := by
  refine Eq.trans (congrArg (fun z => z.2.2.2.2.2) (outsAt0_A m c t h0 h1)) ?_
  dsimp only
  exact sout_A_3 (F := Ideal) ..
theorem at_A_8 (t : Fin cfg0.N) (h0 : t.val % 16 = 0) (h1 : ¬t.val % 16 = 15) :
    (outsAt0 m c t.val t.isLt).2.1 = k0_pay7 (k0_pay13 (S0 (iblk m c 0 t))) (iblk m c 3 t) := by
  refine Eq.trans (congrArg (fun z => z.2.1) (outsAt0_A m c t h0 h1)) ?_
  dsimp only
  exact out_A_8 (F := Ideal) ..
theorem at_A_9 (t : Fin cfg0.N) (h0 : t.val % 16 = 0) (h1 : ¬t.val % 16 = 15) :
    (outsAt0 m c t.val t.isLt).2.2.1 = k0_pay8 (k0_pay14 (S0 (iblk m c 1 t))) (iblk m c 4 t) := by
  refine Eq.trans (congrArg (fun z => z.2.2.1) (outsAt0_A m c t h0 h1)) ?_
  dsimp only
  exact out_A_9 (F := Ideal) ..

theorem lt_prev (t : Fin cfg0.N) : t.val - 1 < cfg0.N := Nat.lt_of_le_of_lt (Nat.sub_le _ _) t.isLt
/-- The maximum, the sums and the weighted sums the point before left; and its two outputs of codes. -/
abbrev pm (t : Fin cfg0.N) : FVec Ideal S16x1 .f32 := (outsAt0 m c (t.val - 1) (lt_prev t)).2.2.2.1
abbrev pl (t : Fin cfg0.N) : FVec Ideal S16x128 .f32 := (outsAt0 m c (t.val - 1) (lt_prev t)).2.2.2.2.1
abbrev pa (t : Fin cfg0.N) : FVec Ideal S16x64 .f32 := (outsAt0 m c (t.val - 1) (lt_prev t)).2.2.2.2.2

theorem at_1 (t : Fin cfg0.N) (h0 : ¬t.val % 16 = 0) : (outsAt0 m c t.val t.isLt).2.2.2.1 = nm m c t (pm m c t) := by
  by_cases h1 : t.val % 16 = 15
  · refine Eq.trans (congrArg (fun z => z.2.2.2.1) (outsAt0_C m c t h0 h1)) ?_
    dsimp only
    exact sout_C_1 (F := Ideal) ..
  · refine Eq.trans (congrArg (fun z => z.2.2.2.1) (outsAt0_B m c t h0 h1)) ?_
    dsimp only
    exact sout_B_1 (F := Ideal) ..
theorem at_2 (t : Fin cfg0.N) (h0 : ¬t.val % 16 = 0) : (outsAt0 m c t.val t.isLt).2.2.2.2.1
    = LB (k0_pay12 (iblk m c 2 t)) (k0_pay15 (S0 (iblk m c 0 t))) (iblk m c 5 t) (pm m c t) (nm m c t (pm m c t)) (pl m c t) := by
  by_cases h1 : t.val % 16 = 15
  · refine Eq.trans (congrArg (fun z => z.2.2.2.2.1) (outsAt0_C m c t h0 h1)) ?_
    dsimp only
    exact sout_C_2 (F := Ideal) ..
  · refine Eq.trans (congrArg (fun z => z.2.2.2.2.1) (outsAt0_B m c t h0 h1)) ?_
    dsimp only
    exact sout_B_2 (F := Ideal) ..
theorem at_3 (t : Fin cfg0.N) (h0 : ¬t.val % 16 = 0) : (outsAt0 m c t.val t.isLt).2.2.2.2.2
    = AB (k0_pay12 (iblk m c 2 t)) (k0_pay15 (S0 (iblk m c 0 t))) (k0_pay16 (S0 (iblk m c 1 t))) (iblk m c 5 t) (iblk m c 6 t) (pm m c t) (nm m c t (pm m c t)) (pa m c t) := by
  by_cases h1 : t.val % 16 = 15
  · refine Eq.trans (congrArg (fun z => z.2.2.2.2.2) (outsAt0_C m c t h0 h1)) ?_
    dsimp only
    exact sout_C_3 (F := Ideal) ..
  · refine Eq.trans (congrArg (fun z => z.2.2.2.2.2) (outsAt0_B m c t h0 h1)) ?_
    dsimp only
    exact sout_B_3 (F := Ideal) ..
theorem at_7 (t : Fin cfg0.N) (h1 : t.val % 16 = 15) : (outsAt0 m c t.val t.isLt).1
    = YB (F := Ideal) (outsAt0 m c t.val t.isLt).2.2.2.2.1 (outsAt0 m c t.val t.isLt).2.2.2.2.2 := by
  have h0 : ¬t.val % 16 = 0 := by omega
  rw [at_2 m c t h0, at_3 m c t h0]
  refine Eq.trans (congrArg (fun z => z.1) (outsAt0_C m c t h0 h1)) ?_
  dsimp only
  exact out_C_7 (F := Ideal) ..
theorem at_8 (t : Fin cfg0.N) (h0 : ¬t.val % 16 = 0) : (outsAt0 m c t.val t.isLt).2.1 = (outsAt0 m c (t.val - 1) (lt_prev t)).2.1 := by
  by_cases h1 : t.val % 16 = 15
  · exact (congrArg (fun z => z.2.1) (outsAt0_C m c t h0 h1)).trans rfl
  · exact (congrArg (fun z => z.2.1) (outsAt0_B m c t h0 h1)).trans rfl
theorem at_9 (t : Fin cfg0.N) (h0 : ¬t.val % 16 = 0) : (outsAt0 m c t.val t.isLt).2.2.1 = (outsAt0 m c (t.val - 1) (lt_prev t)).2.2.1 := by
  by_cases h1 : t.val % 16 = 15
  · exact (congrArg (fun z => z.2.2.1) (outsAt0_C m c t h0 h1)).trans rfl
  · exact (congrArg (fun z => z.2.2.1) (outsAt0_B m c t h0 h1)).trans rfl

/-! ## The induction -/

/-- What holds after point `t` of a batch: the maximum, the sums (lane by lane), the weighted sums over the positions of
    the batch's blocks up to `t`'s, and the new position's codes. -/
structure Inv (t : Fin cfg0.N) : Prop where
  hm : ∀ h : Fin 16, (outsAt0 m c t.val t.isLt).2.2.2.1 (ix2 h 0) = M (S0_ m c (bat t) h) (S_ m c (bat t) h) (8192 * (t.val % 16) + 8192)
  hl : ∀ (h : Fin 16) (lane : Fin 128), (outsAt0 m c t.val t.isLt).2.2.2.2.1 (ix2 h lane)
    = A (S0_ m c (bat t) h) (S_ m c (bat t) h) (if lane.val = 0 then 1 else 0) (fun n => if n % 128 = lane.val then 1 else 0) (8192 * (t.val % 16) + 8192)
  ha : ∀ (h : Fin 16) (d : Fin 64), (outsAt0 m c t.val t.isLt).2.2.2.2.2 (ix2 h d)
    = A (S0_ m c (bat t) h) (S_ m c (bat t) h) (U0_ m c (bat t) d) (U_ m c (bat t) d) (8192 * (t.val % 16) + 8192)
  hk : ∀ d : Fin 64, (outsAt0 m c t.val t.isLt).2.1 (ix3 0 0 d) = qz (akn m c (bat t) d) (aks m c)
  hv : ∀ d : Fin 64, (outsAt0 m c t.val t.isLt).2.2.1 (ix3 0 0 d) = qz (avn m c (bat t) d) (avs m c)

/-- The new position's score is what the first maximum is. -/
theorem im_eq (t : Fin cfg0.N) (h : Fin 16) : IM (iblk m c 0 t) (iblk m c 2 t) (iblk m c 3 t) (ix2 h 0) = S0_ m c (bat t) h := by
  rw [IM_apply]
  unfold S0_ score0
  refine Finset.sum_congr rfl fun d _ => ?_
  exact congrArg₂ (· * ·) (blk_2 m c t h d) (congrArg₂ (· * ·) (congrArg₂ qz (blk_3 m c t d) (blk_0 m c t)) (blk_0 m c t))

theorem inv_first (t : Fin cfg0.N) (h0 : t.val % 16 = 0) : Inv m c t := by
  have h1 : ¬t.val % 16 = 15 := by omega
  have hm (h : Fin 16) : nm m c t (IM (iblk m c 0 t) (iblk m c 2 t) (iblk m c 3 t)) (ix2 h 0)
      = M (S0_ m c (bat t) h) (S_ m c (bat t) h) (8192 * (t.val % 16) + 8192) :=
    nm_apply m c t _ h (by rw [im_eq, h0, Nat.mul_zero, M_zero])
  refine ⟨fun h => ?_, fun h lane => ?_, fun h d => ?_, fun d => ?_, fun d => ?_⟩
  · rw [at_A_1 m c t h0 h1, hm]
  · rw [at_A_2 m c t h0 h1, nl_apply, hm, im_eq, IL_apply, h0]
    simp only [Nat.mul_zero, Nat.zero_add]
    exact A_first ..
  · rw [at_A_3 m c t h0 h1, na_apply, hm, im_eq, IA_apply, h0]
    simp only [Nat.mul_zero, Nat.zero_add]
    refine Eq.trans ?_ (A_first ..)
    refine congrArg (fun z => z * _ + _) ?_
    exact congrArg₂ (· * ·) (congrArg₂ qz (blk_4 m c t d) (blk_1 m c t)) (blk_1 m c t)
  · rw [at_A_8 m c t h0 h1, storedK_apply]
    exact congrArg₂ qz (blk_3 m c t d) (blk_0 m c t)
  · rw [at_A_9 m c t h0 h1, storedV_apply]
    exact congrArg₂ qz (blk_4 m c t d) (blk_1 m c t)

theorem inv_next (t : Fin cfg0.N) (h0 : ¬t.val % 16 = 0) (ih : Inv m c ⟨t.val - 1, lt_prev t⟩) : Inv m c t := by
  obtain ⟨im, il, ia, ik, iv⟩ := ih
  have hb : bat ⟨t.val - 1, lt_prev t⟩ = bat t := Fin.ext (by show (t.val - 1) / 16 = t.val / 16; omega)
  have hn : 8192 * ((⟨t.val - 1, lt_prev t⟩ : Fin cfg0.N).val % 16) + 8192 = 8192 * (t.val % 16) := by
    show 8192 * ((t.val - 1) % 16) + 8192 = 8192 * (t.val % 16); omega
  simp only [hb, hn] at im il ia ik iv
  have hm (h : Fin 16) := nm_apply m c t (pm m c t) h (im h)
  refine ⟨fun h => ?_, fun h lane => ?_, fun h d => ?_, fun d => ?_, fun d => ?_⟩
  · rw [at_1 m c t h0, hm]
  · rw [at_2 m c t h0, nl_apply, hm, pm, im, pl, il]
    exact A_add ..
  · rw [at_3 m c t h0, na_apply, hm, pm, im, pa, ia]
    exact A_add ..
  · rw [at_8 m c t h0, ik]
  · rw [at_9 m c t h0, iv]

theorem inv : ∀ (n : ℕ) (hn : n < cfg0.N), Inv m c ⟨n, hn⟩
  | 0, hn => inv_first m c ⟨0, hn⟩ rfl
  | n + 1, hn => by
    by_cases h0 : (n + 1) % 16 = 0
    · exact inv_first m c ⟨n + 1, hn⟩ h0
    · exact inv_next m c ⟨n + 1, hn⟩ h0 (inv n (Nat.lt_of_succ_lt hn))

/-- The result of a batch at its last point. -/
theorem y_apply (t : Fin cfg0.N) (h1 : t.val % 16 = 15) (h : Fin 16) (d : Fin 64) :
    (outsAt0 m c t.val t.isLt).1 (ix3 0 h d) = mean (aQ m c) (aK m c) (aU m c) (akn m c) (avn m c) (aks m c) (avs m c) (bat t) h d := by
  obtain ⟨im, il, ia, -, -⟩ := inv m c t.val t.isLt
  rw [at_7 m c t h1, YB_apply, ia]
  simp only [il]
  rw [sum_lanes]
  have e : 8192 * ((⟨t.val, t.isLt⟩ : Fin cfg0.N).val % 16) + 8192 = 131072 := by
    show 8192 * (t.val % 16) + 8192 = 131072; omega
  rw [e]
  rfl

end Cert.KernelIdeal.Value
end
-- ==== Proof.Value.Final.lean ====
/- What the idealized kernel's results hold after the run. -/
module

public import proofs.«01_k».proof.Proof.Value.Fold
public import Idealize.ShloMosaic.Lib.Claim

@[expose] public section

set_option maxRecDepth 16384

noncomputable section

namespace Cert.KernelIdeal.Value

open Idealize.ShloMosaic Idealize.ShloMosaic.TcCoe Cert.KernelIdeal Cert.KernelIdeal.Gen Online Idealize.SL.Sem
open Idealize.ShloMosaic.Pipeline (Dat)

variable (m : (ℓ : Loc nD τ sig) → Buf (Elt Ideal) ℓ) (ρ : Dev nD → PrngReg) (c : Dev nD)

/-- The mean, as contents of the result array. -/
def yArr : Vec Ideal S8x16x64 .bf16 := fun i =>
  mean (aQ m c) (aK m c) (aU m c) (akn m c) (avn m c) (aks m c) (avs m c) (i 0) (i 1) (i 2)
/-- The new key's codes. -/
def kArr : Vec Ideal S8x1x64 .fp8e4m3 := fun i => qz (akn m c (i 0) (i 2)) (aks m c)
/-- The new value's codes. -/
def vArr : Vec Ideal S8x1x64 .fp8e4m3 := fun i => qz (avn m c (i 0) (i 2)) (avs m c)

theorem final_7 : (dats m 0 c).arrAt 7 cfg0.N = yArr m c := by
  refine (dats m 0 c).arrAt_eq_of_covers 7 _ (by decide +kernel) fun t hf y => ?_
  blk_simp
  rw [after0_7]
  have h1 : t.val % 16 = 15 := (flush0_7 t).mp hf
  obtain ⟨b, h, d, rfl⟩ : ∃ (b : Fin 1) (h : Fin 16) (d : Fin 64), y = ix3 b h d := ⟨y 0, y 1, y 2, by funext a; fin_cases a <;> rfl⟩
  obtain rfl : b = 0 := Subsingleton.elim _ _
  refine (y_apply m c t h1 h d).trans ?_
  have e : ((cfg0.win 7).blk t).view.emb (ix3 0 h d) = (ix3 (bat t) h d : S8x16x64.Idx) := by blk_ext [idx_7]
  exact (congrArg (yArr m c) e).symm

theorem final_8 : (dats m 0 c).arrAt 8 cfg0.N = kArr m c := by
  refine (dats m 0 c).arrAt_eq_of_covers 8 _ (by decide +kernel) fun t hf y => ?_
  blk_simp
  rw [after0_8]
  obtain ⟨b, h, d, rfl⟩ : ∃ (b : Fin 1) (h : Fin 1) (d : Fin 64), y = ix3 b h d := ⟨y 0, y 1, y 2, by funext a; fin_cases a <;> rfl⟩
  obtain rfl : b = 0 := Subsingleton.elim _ _
  obtain rfl : h = 0 := Subsingleton.elim _ _
  refine ((inv m c t.val t.isLt).hk d).trans ?_
  have e : ((cfg0.win 8).blk t).view.emb (ix3 0 0 d) = (ix3 (bat t) 0 d : S8x1x64.Idx) := by blk_ext [idx_8]
  exact (congrArg (kArr m c) e).symm

theorem final_9 : (dats m 0 c).arrAt 9 cfg0.N = vArr m c := by
  refine (dats m 0 c).arrAt_eq_of_covers 9 _ (by decide +kernel) fun t hf y => ?_
  blk_simp
  rw [after0_9]
  obtain ⟨b, h, d, rfl⟩ : ∃ (b : Fin 1) (h : Fin 1) (d : Fin 64), y = ix3 b h d := ⟨y 0, y 1, y 2, by funext a; fin_cases a <;> rfl⟩
  obtain rfl : b = 0 := Subsingleton.elim _ _
  obtain rfl : h = 0 := Subsingleton.elim _ _
  refine ((inv m c t.val t.isLt).hv d).trans ?_
  have e : ((cfg0.win 9).blk t).view.emb (ix3 0 0 d) = (ix3 (bat t) 0 d : S8x1x64.Idx) := by blk_ext [idx_9]
  exact (congrArg (vArr m c) e).symm

/-! ## The run, read -/

theorem tail_8 : Pipeline.afterTail₀ cfgs (dats m) 0 (V0 m) [hostOps1] c main_v8 = shapeCast S8x1x1024 (yArr m c) shapeCasts_S8x16x64_S8x1x1024 := by
  have e : Pipeline.withArrays (cfgs 0).spec c (V0 m c) (fun w => (dats m 0 c).arrAt w (cfgs 0).N) (Proc.devRef .tc main_v7_0) = yArr m c :=
    (Pipeline.withArrays_arr (cfgs 0).spec (launch0.win.arr_inj) c (V0 m c) (fun w => (dats m 0 c).arrAt w (cfgs 0).N) 7).trans (final_7 m c)
  unfold Pipeline.afterTail₀
  simp only [List.flatten_cons, List.flatten_nil, List.append_nil]
  after_results
  exact congrArg (fun z => shapeCast S8x1x1024 z shapeCasts_S8x16x64_S8x1x1024) e
theorem tail_9 : Pipeline.afterTail₀ cfgs (dats m) 0 (V0 m) [hostOps1] c main_v9 = shapeCast S8x1x1x64 (kArr m c) shapeCasts_S8x1x64_S8x1x1x64 := by
  have e : Pipeline.withArrays (cfgs 0).spec c (V0 m c) (fun w => (dats m 0 c).arrAt w (cfgs 0).N) (Proc.devRef .tc main_v7_1) = kArr m c :=
    (Pipeline.withArrays_arr (cfgs 0).spec (launch0.win.arr_inj) c (V0 m c) (fun w => (dats m 0 c).arrAt w (cfgs 0).N) 8).trans (final_8 m c)
  unfold Pipeline.afterTail₀
  simp only [List.flatten_cons, List.flatten_nil, List.append_nil]
  after_results
  exact congrArg (fun z => shapeCast S8x1x1x64 z shapeCasts_S8x1x64_S8x1x1x64) e
theorem tail_10 : Pipeline.afterTail₀ cfgs (dats m) 0 (V0 m) [hostOps1] c main_v10 = shapeCast S8x1x1x64 (vArr m c) shapeCasts_S8x1x64_S8x1x1x64 := by
  have e : Pipeline.withArrays (cfgs 0).spec c (V0 m c) (fun w => (dats m 0 c).arrAt w (cfgs 0).N) (Proc.devRef .tc main_v7_2) = vArr m c :=
    (Pipeline.withArrays_arr (cfgs 0).spec (launch0.win.arr_inj) c (V0 m c) (fun w => (dats m 0 c).arrAt w (cfgs 0).N) 9).trans (final_9 m c)
  unfold Pipeline.afterTail₀
  simp only [List.flatten_cons, List.flatten_nil, List.append_nil]
  after_results
  exact congrArg (fun z => shapeCast S8x1x1x64 z shapeCasts_S8x1x64_S8x1x1x64) e

theorem run : θ_run (defs (F := Ideal)) (onTc (τ := τ) (main (F := Ideal))) ⟨m, fun _ => 0, ρ⟩ fun r => ∀ c : Dev nD,
      r.2.mem ((c.tc : Thread nD τ).loc main_v8) = shapeCast S8x1x1024 (yArr m c) shapeCasts_S8x16x64_S8x1x1024
      ∧ r.2.mem ((c.tc : Thread nD τ).loc main_v9) = shapeCast S8x1x1x64 (kArr m c) shapeCasts_S8x1x64_S8x1x1x64
      ∧ r.2.mem ((c.tc : Thread nD τ).loc main_v10) = shapeCast S8x1x1x64 (vArr m c) shapeCasts_S8x1x64_S8x1x1x64 := by
  run_from (run_main m ρ)
  · exact tail_8 m c
  · exact tail_9 m c
  · exact tail_10 m c

end Cert.KernelIdeal.Value
end
-- ==== Proof.Value.RefEntries.lean ====
/- The idealized reference's result entry by entry over the extended reals. -/
module

public import proofs.«01_k».proof.Proof.Gen.ReferenceIdeal.Frame
public import proofs.«01_k».proof.Proof.Value.Spec
public import Idealize.ShloMosaic.Lib.Pointwise

@[expose] public section

set_option maxRecDepth 16384

noncomputable section

namespace Cert.ReferenceIdeal.Value

open Idealize.ShloMosaic Cert.ReferenceIdeal Cert.ReferenceIdeal.Gen Online

section Parts
variable {F : FTy → Type} [FloatOps F]

/-- The stored codes times their scale. -/
def DQ (s : FVec F S1x1x1 .f32) (k : Vec F S8x131072x64 .fp8e4m3) : FVec F S8x131072x64 .bf16 :=
  mulf (extf .bf16 (shapeCast S8x131072x64 k shapeCasts_S8x131072x64_S8x131072x64) bitsLt_fp8e4m3_bf16)
    (broadcastTo S8x131072x64 (truncf .bf16 s bitsLt_bf16_f32) broadcasts_S1x1x1_S8x131072x64)
/-- The new codes times their scale. -/
def DN (s : FVec F S1x1x1 .f32) (k : FVec F S8x1x64 .fp8e4m3) : FVec F S8x1x64 .bf16 :=
  mulf (extf .bf16 k bitsLt_fp8e4m3_bf16) (broadcastTo S8x1x64 (truncf .bf16 s bitsLt_bf16_f32) broadcasts_S1x1x1_S8x1x64)
/-- The scaled scores of the stored positions. -/
def SC (q : FVec F S8x16x64 .bf16) (k : FVec F S8x131072x64 .bf16) : FVec F S8x16x131072 .f32 :=
  mulf (matmul dot_S8x16x64_S8x131072x64_S8x16x131072_2_2_1_1_0_0 none q k (constant S8x16x131072 .f32 0x00000000#32))
    (broadcast S8x16x131072 (Scalar.ofBits .f32 0x3E000000#32 : F .f32))
/-- The scaled score of the new position. -/
def SN (q : FVec F S8x16x64 .bf16) (k : FVec F S8x1x64 .bf16) : FVec F S8x16x1 .f32 :=
  mulf (matmul dot_S8x16x64_S8x1x64_S8x16x1_2_2_1_1_0_0 none q k (constant S8x16x1 .f32 0x00000000#32))
    (broadcast S8x16x1 (Scalar.ofBits .f32 0x3E000000#32 : F .f32))
/-- The maximum of the stored positions' scores. -/
def M1 (s : FVec F S8x16x131072 .f32) : FVec F S8x16x1 .f32 :=
  shapeCast S8x16x1 (multiReduction .maximumf [2] S8x16 s 0xFF800000#32 reduces_S8x16x131072_S8x16 (.inl rfl) rfl) shapeCasts_S8x16_S8x16x1
/-- The maximum of the new position's one score. -/
def M2 (s : FVec F S8x16x1 .f32) : FVec F S8x16x1 .f32 :=
  shapeCast S8x16x1 (multiReduction .maximumf [2] S8x16 s 0xFF800000#32 reduces_S8x16x1_S8x16 (.inl rfl) rfl) shapeCasts_S8x16_S8x16x1
/-- The maximum of all. -/
def MX (s : FVec F S8x16x131072 .f32) (sn : FVec F S8x16x1 .f32) : FVec F S8x16x1 .f32 := maximumf (M1 s) (M2 sn)
/-- The weights of the stored positions. -/
def EX (s : FVec F S8x16x131072 .f32) (mx : FVec F S8x16x1 .f32) : FVec F S8x16x131072 .f32 :=
  exp (subf s (broadcastTo S8x16x131072 mx broadcasts_S8x16x1_S8x16x131072))
/-- The weight of the new position. -/
def EN (s : FVec F S8x16x1 .f32) (mx : FVec F S8x16x1 .f32) : FVec F S8x16x1 .f32 := exp (subf s mx)
/-- The sum of the weights. -/
def DEN (e : FVec F S8x16x131072 .f32) (en : FVec F S8x16x1 .f32) : FVec F S8x16x1 .f32 :=
  addf (shapeCast S8x16x1 (multiReduction .add [2] S8x16 e 0x00000000#32 reduces_S8x16x131072_S8x16 (.inl rfl) rfl) shapeCasts_S8x16_S8x16x1)
    (shapeCast S8x16x1 (multiReduction .add [2] S8x16 en 0x00000000#32 reduces_S8x16x1_S8x16 (.inl rfl) rfl) shapeCasts_S8x16_S8x16x1)
/-- The weighted sum. -/
def NUM (e : FVec F S8x16x131072 .f32) (v : FVec F S8x131072x64 .bf16) (en : FVec F S8x16x1 .f32) (vn : FVec F S8x1x64 .bf16) : FVec F S8x16x64 .f32 :=
  addf (matmul dot_S8x16x131072_S8x131072x64_S8x16x64_2_1_1_2_0_0 none e (extf .f32 v bitsLt_bf16_f32) (constant S8x16x64 .f32 0x00000000#32))
    (matmul dot_S8x16x1_S8x1x64_S8x16x64_2_1_1_2_0_0 none en (extf .f32 vn bitsLt_bf16_f32) (constant S8x16x64 .f32 0x00000000#32))
/-- Their quotient. -/
def OUT (n : FVec F S8x16x64 .f32) (d : FVec F S8x16x1 .f32) : FVec F S8x16x64 .bf16 :=
  truncf .bf16 (divf n (broadcastTo S8x16x64 d broadcasts_S8x16x1_S8x16x64)) bitsLt_bf16_f32

theorem pay6_eq (x : Vec F S1 .f32) (k : Vec F S8x131072x64 .fp8e4m3) : k0_pay6 x k = DQ (k0_pay2 x) k := rfl
theorem pay7_eq (v1 : FVec F S8x16x64 .bf16) (v3 : FVec F S1x1x1 .f32) (v5 : FVec F S1x1x1 .f32) (v17 : FVec F S8x1x64 .fp8e4m3) (v29 : FVec F S8x1x64 .fp8e4m3) (v35 : FVec F S8x131072x64 .bf16) (v36 : Vec F S8x131072x64 .fp8e4m3) :
    k0_pay7 v1 v3 v5 v17 v29 v35 v36
      = OUT (NUM (EX (SC v1 v35) (MX (SC v1 v35) (SN v1 (DN v3 v17)))) (DQ v5 v36) (EN (SN v1 (DN v3 v17)) (MX (SC v1 v35) (SN v1 (DN v3 v17)))) (DN v5 v29))
          (DEN (EX (SC v1 v35) (MX (SC v1 v35) (SN v1 (DN v3 v17)))) (EN (SN v1 (DN v3 v17)) (MX (SC v1 v35) (SN v1 (DN v3 v17))))) := rfl
end Parts

/-! ## Entries -/

theorem eighth : Ideal.ofBits .f32 0x3E000000#32 = ((1/8 : ℝ) : EReal) := by
  simp [Ideal.ofBits, Ideal.ieee]
  rw [← EReal.coe_mul]
  norm_num
theorem ninf : Ideal.ofBits .f32 0xFF800000#32 = ⊥ := by simp [Ideal.ofBits, Ideal.ieee]

theorem q_apply (x : Vec Ideal S8x16x64 .bf16) (b : Fin 8) (h : Fin 16) (d : Fin 64) : k0_pay1 x (ix3 b h d) = x (ix3 b h d) := by
  unfold k0_pay1
  pointwise
theorem s_apply (x : Vec Ideal S1 .f32) : k0_pay2 x (ix3 0 0 0) = x (ix1 0) := by
  unfold k0_pay2
  pointwise
theorem t_apply (x : Vec Ideal S1 .f32) : k0_pay3 x (ix3 0 0 0) = x (ix1 0) := by
  unfold k0_pay3
  pointwise
theorem kc_apply (x : Vec Ideal S1 .f32) (y : Vec Ideal S8x1x64 .bf16) (b : Fin 8) (d : Fin 64) :
    k0_pay4 x y (ix3 b 0 d) = qz (y (ix3 b 0 d)) (x (ix1 0)) := by
  unfold k0_pay4 k0_pay2 qz
  pointwise
theorem vc_apply (x : Vec Ideal S1 .f32) (y : Vec Ideal S8x1x64 .bf16) (b : Fin 8) (d : Fin 64) :
    k0_pay5 x y (ix3 b 0 d) = qz (y (ix3 b 0 d)) (x (ix1 0)) := by
  unfold k0_pay5 k0_pay3 qz
  pointwise
theorem DQ_apply (s : FVec Ideal S1x1x1 .f32) (k : Vec Ideal S8x131072x64 .fp8e4m3) (b : Fin 8) (n : Fin 131072) (d : Fin 64) :
    DQ s k (ix3 b n d) = k (ix3 b n d) * s (ix3 0 0 0) := by
  unfold DQ
  pointwise
theorem DN_apply (s : FVec Ideal S1x1x1 .f32) (k : FVec Ideal S8x1x64 .fp8e4m3) (b : Fin 8) (d : Fin 64) :
    DN s k (ix3 b 0 d) = k (ix3 b 0 d) * s (ix3 0 0 0) := by
  unfold DN
  pointwise
theorem SC_apply (q : FVec Ideal S8x16x64 .bf16) (k : FVec Ideal S8x131072x64 .bf16) (b : Fin 8) (h : Fin 16) (n : Fin 131072) :
    SC q k (ix3 b h n) = (∑ d : Fin 64, q (ix3 b h d) * k (ix3 b n d)) * ((1/8 : ℝ) : EReal) := by
  rw [← eighth]
  unfold SC
  pointwise
theorem SN_apply (q : FVec Ideal S8x16x64 .bf16) (k : FVec Ideal S8x1x64 .bf16) (b : Fin 8) (h : Fin 16) :
    SN q k (ix3 b h 0) = (∑ d : Fin 64, q (ix3 b h d) * k (ix3 b 0 d)) * ((1/8 : ℝ) : EReal) := by
  rw [← eighth]
  unfold SN
  pointwise
theorem fold_le {n : ℕ} (f : Fin n → EReal) (z : EReal) : Finset.univ.fold max (Ideal.ofBits .f32 0xFF800000#32) f ≤ z ↔ ∀ k, f k ≤ z := by
  rw [Finset.fold_max_le, ninf]
  simp only [bot_le, true_and, Finset.mem_univ, forall_true_left]
theorem M1_apply (s : FVec Ideal S8x16x131072 .f32) (b : Fin 8) (h : Fin 16) :
    M1 s (ix3 b h 0) = Finset.univ.fold max (Ideal.ofBits .f32 0xFF800000#32) (fun k : Fin 131072 => s (ix3 b h k)) := by
  unfold M1
  pointwise
theorem M2_apply (s : FVec Ideal S8x16x1 .f32) (b : Fin 8) (h : Fin 16) :
    M2 s (ix3 b h 0) = Finset.univ.fold max (Ideal.ofBits .f32 0xFF800000#32) (fun k : Fin 1 => s (ix3 b h k)) := by
  unfold M2
  pointwise
theorem max_apply (x y : FVec Ideal S8x16x1 .f32) (b : Fin 8) (h : Fin 16) : maximumf x y (ix3 b h 0) = max (x (ix3 b h 0)) (y (ix3 b h 0)) := by
  pointwise
theorem MX_le (s : FVec Ideal S8x16x131072 .f32) (sn : FVec Ideal S8x16x1 .f32) (b : Fin 8) (h : Fin 16) (z : EReal) :
    MX s sn (ix3 b h 0) ≤ z ↔ (∀ n : Fin 131072, s (ix3 b h n) ≤ z) ∧ sn (ix3 b h 0) ≤ z := by
  unfold MX
  rw [max_apply, M1_apply, M2_apply, max_le_iff, fold_le, fold_le, Fin.forall_fin_one]
theorem EX_apply (s : FVec Ideal S8x16x131072 .f32) (mx : FVec Ideal S8x16x1 .f32) (b : Fin 8) (h : Fin 16) (n : Fin 131072) :
    EX s mx (ix3 b h n) = Ideal.exp (s (ix3 b h n) - mx (ix3 b h 0)) := by
  unfold EX
  pointwise
theorem EN_apply (s : FVec Ideal S8x16x1 .f32) (mx : FVec Ideal S8x16x1 .f32) (b : Fin 8) (h : Fin 16) :
    EN s mx (ix3 b h 0) = Ideal.exp (s (ix3 b h 0) - mx (ix3 b h 0)) := by
  unfold EN
  pointwise
theorem DEN_apply (e : FVec Ideal S8x16x131072 .f32) (en : FVec Ideal S8x16x1 .f32) (b : Fin 8) (h : Fin 16) :
    DEN e en (ix3 b h 0) = (∑ n : Fin 131072, e (ix3 b h n)) + en (ix3 b h 0) := by
  unfold DEN
  pointwise
  rw [Fin.sum_univ_one (fun x : Fin 1 => en (ix3 b h x))]
theorem NUM_apply (e : FVec Ideal S8x16x131072 .f32) (v : FVec Ideal S8x131072x64 .bf16) (en : FVec Ideal S8x16x1 .f32) (vn : FVec Ideal S8x1x64 .bf16) (b : Fin 8) (h : Fin 16) (d : Fin 64) :
    NUM e v en vn (ix3 b h d) = (∑ n : Fin 131072, e (ix3 b h n) * v (ix3 b n d)) + en (ix3 b h 0) * vn (ix3 b 0 d) := by
  unfold NUM
  pointwise
  rw [Fin.sum_univ_one (fun x : Fin 1 => en (ix3 b h x) * vn (ix3 b x d))]
theorem OUT_apply (n : FVec Ideal S8x16x64 .f32) (e : FVec Ideal S8x16x1 .f32) (b : Fin 8) (h : Fin 16) (d : Fin 64) :
    OUT n e (ix3 b h d) = Ideal.div (n (ix3 b h d)) (e (ix3 b h 0)) := by
  unfold OUT
  pointwise

end Cert.ReferenceIdeal.Value
end
-- ==== Proof.Value.RefFinal.lean ====
/- What the idealized reference's results hold after the run. -/
module

public import proofs.«01_k».proof.Proof.Value.RefEntries
public import Idealize.ShloMosaic.Lib.Pipeline.ValueKit
public import Idealize.ShloMosaic.Lib.Claim

@[expose] public section

set_option maxRecDepth 16384

noncomputable section

namespace Online

open Idealize.ShloMosaic

/-- One eighth. -/
abbrev e8 : EReal := ((1/8 : ℝ) : EReal)

theorem M_succ (s0 : EReal) (s : ℕ → EReal) (n : ℕ) : M s0 s (n + 1) = max (M s0 s n) (s n) := by
  refine eq_of_forall_ge_iff fun b => ?_
  rw [max_le_iff, M_le_iff, M_le_iff]
  constructor
  · rintro ⟨h0, h⟩; exact ⟨⟨h0, fun t ht => h t (Nat.lt_succ_of_lt ht)⟩, h n (Nat.lt_succ_self n)⟩
  · rintro ⟨⟨h0, h⟩, hn⟩
    refine ⟨h0, fun t ht => ?_⟩
    rcases Nat.lt_succ_iff_lt_or_eq.1 ht with h' | rfl
    exacts [h t h', hn]

/-- The scaled maximum bounds what bounds every scaled score. -/
theorem M_eighth_le (s0 : EReal) (s : ℕ → EReal) (n : ℕ) (z : EReal) : M s0 s n * e8 ≤ z ↔ s0 * e8 ≤ z ∧ ∀ t < n, s t * e8 ≤ z := by
  induction n with
  | zero => simp [M_zero]
  | succ n ih =>
    rw [M_succ, ← max_mul_eighth, max_le_iff, ih]
    constructor
    · rintro ⟨⟨h0, h⟩, hn⟩
      refine ⟨h0, fun t ht => ?_⟩
      rcases Nat.lt_succ_iff_lt_or_eq.1 ht with h' | rfl
      exacts [h t h', hn]
    · rintro ⟨h0, h⟩; exact ⟨⟨h0, fun t ht => h t (Nat.lt_succ_of_lt ht)⟩, h n (Nat.lt_succ_self n)⟩

theorem at_val (n : Fin 131072) : at_ n.val = n := Fin.ext (Nat.mod_eq_of_lt n.isLt)

end Online

namespace Cert.ReferenceIdeal.Value

open Idealize.ShloMosaic Idealize.ShloMosaic.TcCoe Cert.ReferenceIdeal Cert.ReferenceIdeal.Gen Online Idealize.SL.Sem
open Idealize.ShloMosaic.Pipeline (Dat)

/-! ## The body's outputs, from the windows -/

section Body
variable (x0 : Vec Ideal S8x16x64 .bf16) (x1 x2 : Vec Ideal S8x1x64 .bf16) (x3 : Vec Ideal S8x131072x64 .fp8e4m3) (x4 : Vec Ideal S1 .f32)
  (x5 : Vec Ideal S8x131072x64 .fp8e4m3) (x6 : Vec Ideal S1 .f32)

def fQ (b : Fin 8) (h : Fin 16) (d : Fin 64) : EReal := x0 (ix3 b h d)
def fK (b : Fin 8) (n : Fin 131072) (d : Fin 64) : EReal := x3 (ix3 b n d)
def fN (b : Fin 8) (d : Fin 64) : EReal := x1 (ix3 b 0 d)
def fS : EReal := x4 (ix1 0)

theorem score_apply (b : Fin 8) (h : Fin 16) (n : Fin 131072) :
    SC (k0_pay1 x0) (k0_pay6 x4 x3) (ix3 b h n) = score (fQ x0) (fK x3) (fS x4) b h n.val * e8 := by
  rw [SC_apply, pay6_eq]
  simp only [DQ_apply, q_apply, s_apply]
  unfold score
  rw [at_val]
  rfl

theorem score0_apply (b : Fin 8) (h : Fin 16) :
    SN (k0_pay1 x0) (DN (k0_pay2 x4) (k0_pay4 x4 x1)) (ix3 b h 0) = score0 (fQ x0) (fN x1) (fS x4) b h * e8 := by
  rw [SN_apply]
  simp only [DN_apply, q_apply, s_apply, kc_apply]
  rfl

theorem mean_apply (b : Fin 8) (h : Fin 16) (d : Fin 64) :
    k0_pay7 (k0_pay1 x0) (k0_pay2 x4) (k0_pay3 x6) (k0_pay4 x4 x1) (k0_pay5 x6 x2) (k0_pay6 x4 x3) x5 (ix3 b h d)
      = mean (fQ x0) (fK x3) (fK x5) (fN x1) (fN x2) (fS x4) (fS x6) b h d := by
  have hs := score_apply x0 x3 x4 b h
  have h0 := score0_apply x0 x1 x4 b h
  have hv (n : Fin 131072) : DQ (k0_pay3 x6) x5 (ix3 b n d) = stored (fK x5) (fS x6) b d n.val := by
    rw [DQ_apply, t_apply]; unfold stored; rw [at_val]; rfl
  have hv0 : DN (k0_pay3 x6) (k0_pay5 x6 x2) (ix3 b 0 d) = qz (fN x2 b d) (fS x6) * fS x6 := by
    rw [DN_apply, t_apply, vc_apply]; rfl
  rw [pay7_eq]
  unfold mean
  generalize SC (k0_pay1 x0) (k0_pay6 x4 x3) = sc at hs
  generalize SN (k0_pay1 x0) (DN (k0_pay2 x4) (k0_pay4 x4 x1)) = sn at h0
  generalize DQ (k0_pay3 x6) x5 = v at hv
  generalize DN (k0_pay3 x6) (k0_pay5 x6 x2) = vn at hv0
  generalize score (fQ x0) (fK x3) (fS x4) b h = s at hs
  generalize score0 (fQ x0) (fN x1) (fS x4) b h = s0 at h0
  generalize stored (fK x5) (fS x6) b d = u at hv
  generalize qz (fN x2 b d) (fS x6) * fS x6 = u0 at hv0
  have hm : MX sc sn (ix3 b h 0) = M s0 s 131072 * e8 := by
    refine eq_of_forall_ge_iff fun z => ?_
    rw [MX_le, M_eighth_le, h0, and_comm]
    refine and_congr_right fun _ => ⟨fun H t ht => ?_, fun H n => ?_⟩
    · have := H ⟨t, ht⟩; rwa [hs] at this
    · rw [hs]; exact H n.val n.isLt
  have he (n : Fin 131072) : EX sc (MX sc sn) (ix3 b h n) = W (s n.val) (M s0 s 131072) := by
    rw [EX_apply, hs, hm, exp_eighth]
  have hn : EN sn (MX sc sn) (ix3 b h 0) = W s0 (M s0 s 131072) := by
    rw [EN_apply, h0, hm, exp_eighth]
  rw [OUT_apply, NUM_apply, DEN_apply, hn, hv0]
  simp only [he, hv]
  unfold A
  rw [Fin.sum_univ_eq_sum_range (fun n => W (s n) (M s0 s 131072) * u n) 131072, Fin.sum_univ_eq_sum_range (fun n => W (s n) (M s0 s 131072)) 131072,
    add_comm (∑ i ∈ Finset.range 131072, W (s i) (M s0 s 131072) * u i), add_comm (∑ i ∈ Finset.range 131072, W (s i) (M s0 s 131072))]
  simp only [mul_one]

theorem hz1 : (![0] : Fin 1 → Nat) = fun _ => 0 := funext fun a => by fin_cases a <;> rfl
theorem hz3 : (![0, 0, 0] : Fin 3 → Nat) = fun _ => 0 := funext fun a => by fin_cases a <;> rfl

theorem ld_0 (x : Vec Ideal S8x16x64 .bf16) : View.ld x r0_0 = x := View.ld_unit_zero (S := S8x16x64) hz3 _ x
theorem ld_1 (x : Vec Ideal S1 .f32) : View.ld x r0_1 = x := View.ld_unit_zero (S := S1) hz1 _ x
theorem ld_2 (x : Vec Ideal S8x1x64 .bf16) : View.ld x r0_2 = x := View.ld_unit_zero (S := S8x1x64) hz3 _ x
theorem ld_3 (x : Vec Ideal S8x131072x64 .fp8e4m3) : View.ld x r0_3 = x := View.ld_unit_zero (S := S8x131072x64) hz3 _ x

theorem out_7 (b : Fin 8) (h : Fin 16) (d : Fin 64) : out0_7 x0 x1 x2 x3 x4 x5 x6 (ix3 b h d)
    = mean (fQ x0) (fK x3) (fK x5) (fN x1) (fN x2) (fS x4) (fS x6) b h d := by
  rw [← mean_apply]
  unfold out0_7 k0_pay8 k0_pay9
  rw [View.canon_unit_zero (S := S8x16x64) hz3]
  rw [ld_0, ld_1, ld_1, ld_2, ld_2, ld_3, ld_3]
theorem out_8 (b : Fin 8) (d : Fin 64) : out0_8 x0 x1 x2 x3 x4 x5 x6 (ix3 b 0 d) = qz (fN x1 b d) (fS x4) := by
  unfold out0_8 k0_pay8
  rw [View.canon_unit_zero (S := S8x1x64) hz3, ld_1, ld_2, kc_apply]
  rfl
theorem out_9 (b : Fin 8) (d : Fin 64) : out0_9 x0 x1 x2 x3 x4 x5 x6 (ix3 b 0 d) = qz (fN x2 b d) (fS x6) := by
  unfold out0_9 k0_pay9
  rw [View.canon_unit_zero (S := S8x1x64) hz3, ld_1, ld_2, vc_apply]
  rfl
end Body

/-! ## The windows' blocks: the whole arrays -/

variable (m : (ℓ : Loc nD τ sig) → Buf (Elt Ideal) ℓ) (ρ : Dev nD → PrngReg) (c : Dev nD)

theorem idx_0 : ∀ t : Fin grid0.N, win0_0.index t = ![0, 0, 0] := by decide +kernel
theorem idx_1 : ∀ t : Fin grid0.N, win0_1.index t = ![0, 0, 0] := by decide +kernel
theorem idx_2 : ∀ t : Fin grid0.N, win0_2.index t = ![0, 0, 0] := by decide +kernel
theorem idx_3 : ∀ t : Fin grid0.N, win0_3.index t = ![0, 0, 0] := by decide +kernel
theorem idx_4 : ∀ t : Fin grid0.N, win0_4.index t = ![0] := by decide +kernel
theorem idx_5 : ∀ t : Fin grid0.N, win0_5.index t = ![0, 0, 0] := by decide +kernel
theorem idx_6 : ∀ t : Fin grid0.N, win0_6.index t = ![0] := by decide +kernel
theorem idx_7 : ∀ t : Fin grid0.N, win0_7.index t = ![0, 0, 0] := by decide +kernel
theorem idx_8 : ∀ t : Fin grid0.N, win0_8.index t = ![0, 0, 0] := by decide +kernel
theorem idx_9 : ∀ t : Fin grid0.N, win0_9.index t = ![0, 0, 0] := by decide +kernel

theorem blk_0 (t : Fin cfg0.N) : (iblk m c 0 t : Vec Ideal S8x16x64 .bf16) = (V m c main_v0 : Vec Ideal S8x16x64 .bf16) := by
  funext y
  unfold iblk
  rw [View.read_apply]
  refine congrArg (V m c main_v0) ?_
  blk_ext [idx_0]
theorem blk_1 (t : Fin cfg0.N) : (iblk m c 1 t : Vec Ideal S8x1x64 .bf16) = (V m c main_v1 : Vec Ideal S8x1x64 .bf16) := by
  funext y
  unfold iblk
  rw [View.read_apply]
  refine congrArg (V m c main_v1) ?_
  blk_ext [idx_1]
theorem blk_2 (t : Fin cfg0.N) : (iblk m c 2 t : Vec Ideal S8x1x64 .bf16) = (V m c main_v2 : Vec Ideal S8x1x64 .bf16) := by
  funext y
  unfold iblk
  rw [View.read_apply]
  refine congrArg (V m c main_v2) ?_
  blk_ext [idx_2]
theorem blk_3 (t : Fin cfg0.N) : (iblk m c 3 t : Vec Ideal S8x131072x64 .fp8e4m3) = (V m c main_v3 : Vec Ideal S8x131072x64 .fp8e4m3) := by
  funext y
  unfold iblk
  rw [View.read_apply]
  refine congrArg (V m c main_v3) ?_
  blk_ext [idx_3]
theorem blk_4 (t : Fin cfg0.N) : (iblk m c 4 t : Vec Ideal S1 .f32) = (V m c main_arg4 : Vec Ideal S1 .f32) := by
  funext y
  unfold iblk
  rw [View.read_apply]
  refine congrArg (V m c main_arg4) ?_
  blk_ext [idx_4]
theorem blk_5 (t : Fin cfg0.N) : (iblk m c 5 t : Vec Ideal S8x131072x64 .fp8e4m3) = (V m c main_v4 : Vec Ideal S8x131072x64 .fp8e4m3) := by
  funext y
  unfold iblk
  rw [View.read_apply]
  refine congrArg (V m c main_v4) ?_
  blk_ext [idx_5]
theorem blk_6 (t : Fin cfg0.N) : (iblk m c 6 t : Vec Ideal S1 .f32) = (V m c main_arg6 : Vec Ideal S1 .f32) := by
  funext y
  unfold iblk
  rw [View.read_apply]
  refine congrArg (V m c main_arg6) ?_
  blk_ext [idx_6]

/-! ## The arrays, from the arguments -/

theorem ent_0 (b : Fin 8) (h : Fin 16) (d : Fin 64) :
    (V m c main_v0 : Vec Ideal S8x16x64 .bf16) (ix3 b h d) = (m (c.tc.loc main_arg0) : Vec Ideal S8x1x1024 .bf16) (ix3 b 0 ⟨h.val * 64 + d.val, by omega⟩) := by
  simp only [V, V0, List.flatten_cons, List.flatten_nil, List.append_nil]
  after_results
  pointwise
theorem ent_1 (b : Fin 8) (d : Fin 64) :
    (V m c main_v1 : Vec Ideal S8x1x64 .bf16) (ix3 b 0 d) = (m (c.tc.loc main_arg1) : Vec Ideal S8x1x1x64 .bf16) (ix4 b 0 0 d) := by
  simp only [V, V0, List.flatten_cons, List.flatten_nil, List.append_nil]
  after_results
  pointwise
theorem ent_2 (b : Fin 8) (d : Fin 64) :
    (V m c main_v2 : Vec Ideal S8x1x64 .bf16) (ix3 b 0 d) = (m (c.tc.loc main_arg2) : Vec Ideal S8x1x1x64 .bf16) (ix4 b 0 0 d) := by
  simp only [V, V0, List.flatten_cons, List.flatten_nil, List.append_nil]
  after_results
  pointwise
theorem ent_3 (b : Fin 8) (d : Fin 64) (n : Fin 131072) :
    (V m c main_v3 : Vec Ideal S8x131072x64 .fp8e4m3) (ix3 b n d) = (m (c.tc.loc main_arg3) : Vec Ideal S8x131072x1x64 .fp8e4m3) (ix4 b n 0 d) := by
  simp only [V, V0, List.flatten_cons, List.flatten_nil, List.append_nil]
  after_results
  pointwise
theorem ent_5 (b : Fin 8) (d : Fin 64) (n : Fin 131072) :
    (V m c main_v4 : Vec Ideal S8x131072x64 .fp8e4m3) (ix3 b n d) = (m (c.tc.loc main_arg5) : Vec Ideal S8x131072x1x64 .fp8e4m3) (ix4 b n 0 d) := by
  simp only [V, V0, List.flatten_cons, List.flatten_nil, List.append_nil]
  after_results
  pointwise

/-! ## The results' arrays after the run -/

def rQ := fQ (V m c main_v0 : Vec Ideal S8x16x64 .bf16)
def rK := fK (V m c main_v3 : Vec Ideal S8x131072x64 .fp8e4m3)
def rU := fK (V m c main_v4 : Vec Ideal S8x131072x64 .fp8e4m3)
def rkn := fN (V m c main_v1 : Vec Ideal S8x1x64 .bf16)
def rvn := fN (V m c main_v2 : Vec Ideal S8x1x64 .bf16)
def rks := fS (V m c main_arg4 : Vec Ideal S1 .f32)
def rvs := fS (V m c main_arg6 : Vec Ideal S1 .f32)

/-- The mean, as contents of the result array. -/
def yArr : Vec Ideal S8x16x64 .bf16 := fun i =>
  mean (rQ m c) (rK m c) (rU m c) (rkn m c) (rvn m c) (rks m c) (rvs m c) (i 0) (i 1) (i 2)
/-- The new key's codes. -/
def kArr : Vec Ideal S8x1x64 .fp8e4m3 := fun i => qz (rkn m c (i 0) (i 2)) (rks m c)
/-- The new value's codes. -/
def vArr : Vec Ideal S8x1x64 .fp8e4m3 := fun i => qz (rvn m c (i 0) (i 2)) (rvs m c)

theorem final_7 : (dats m 0 c).arrAt 7 cfg0.N = yArr m c := by
  refine (dats m 0 c).arrAt_eq_of_covers 7 _ (by decide +kernel) fun t hf y => ?_
  blk_simp
  rw [after0_7]
  obtain ⟨b, h, d, rfl⟩ : ∃ (b : Fin 8) (h : Fin 16) (d : Fin 64), y = ix3 b h d := ⟨y 0, y 1, y 2, by funext a; fin_cases a <;> rfl⟩
  refine (out_7 _ _ _ _ _ _ _ b h d).trans ?_
  rw [blk_0, blk_1, blk_2, blk_3, blk_4, blk_5, blk_6]
  have e : ((cfg0.win 7).blk t).view.emb (ix3 b h d) = (ix3 b h d : S8x16x64.Idx) := by blk_ext [idx_7]
  exact (congrArg (yArr m c) e).symm

theorem final_8 : (dats m 0 c).arrAt 8 cfg0.N = kArr m c := by
  refine (dats m 0 c).arrAt_eq_of_covers 8 _ (by decide +kernel) fun t hf y => ?_
  blk_simp
  rw [after0_8]
  obtain ⟨b, h, d, rfl⟩ : ∃ (b : Fin 8) (h : Fin 1) (d : Fin 64), y = ix3 b h d := ⟨y 0, y 1, y 2, by funext a; fin_cases a <;> rfl⟩
  obtain rfl : h = 0 := Subsingleton.elim _ _
  refine (out_8 (iblk m c 0 t) _ _ (iblk m c 3 t) _ (iblk m c 5 t) _ b d).trans ?_
  rw [blk_1, blk_4]
  have e : ((cfg0.win 8).blk t).view.emb (ix3 b 0 d) = (ix3 b 0 d : S8x1x64.Idx) := by blk_ext [idx_8]
  exact (congrArg (kArr m c) e).symm

theorem final_9 : (dats m 0 c).arrAt 9 cfg0.N = vArr m c := by
  refine (dats m 0 c).arrAt_eq_of_covers 9 _ (by decide +kernel) fun t hf y => ?_
  blk_simp
  rw [after0_9]
  obtain ⟨b, h, d, rfl⟩ : ∃ (b : Fin 8) (h : Fin 1) (d : Fin 64), y = ix3 b h d := ⟨y 0, y 1, y 2, by funext a; fin_cases a <;> rfl⟩
  obtain rfl : h = 0 := Subsingleton.elim _ _
  refine (out_9 (iblk m c 0 t) _ _ (iblk m c 3 t) _ (iblk m c 5 t) _ b d).trans ?_
  rw [blk_2, blk_6]
  have e : ((cfg0.win 9).blk t).view.emb (ix3 b 0 d) = (ix3 b 0 d : S8x1x64.Idx) := by blk_ext [idx_9]
  exact (congrArg (vArr m c) e).symm

theorem tail_6 : Pipeline.afterTail₀ cfgs (dats m) 0 (V0 m) [hostOps1] c main_v6 = shapeCast S8x1x1024 (yArr m c) shapeCasts_S8x16x64_S8x1x1024 := by
  have e : Pipeline.withArrays (cfgs 0).spec c (V0 m c) (fun w => (dats m 0 c).arrAt w (cfgs 0).N) (Proc.devRef .tc main_v5_0) = yArr m c :=
    (Pipeline.withArrays_arr (cfgs 0).spec (launch0.win.arr_inj) c (V0 m c) (fun w => (dats m 0 c).arrAt w (cfgs 0).N) 7).trans (final_7 m c)
  unfold Pipeline.afterTail₀
  simp only [List.flatten_cons, List.flatten_nil, List.append_nil]
  after_results
  exact congrArg (fun z => shapeCast S8x1x1024 z shapeCasts_S8x16x64_S8x1x1024) e
theorem tail_7 : Pipeline.afterTail₀ cfgs (dats m) 0 (V0 m) [hostOps1] c main_v7 = shapeCast S8x1x1x64 (kArr m c) shapeCasts_S8x1x64_S8x1x1x64 := by
  have e : Pipeline.withArrays (cfgs 0).spec c (V0 m c) (fun w => (dats m 0 c).arrAt w (cfgs 0).N) (Proc.devRef .tc main_v5_1) = kArr m c :=
    (Pipeline.withArrays_arr (cfgs 0).spec (launch0.win.arr_inj) c (V0 m c) (fun w => (dats m 0 c).arrAt w (cfgs 0).N) 8).trans (final_8 m c)
  unfold Pipeline.afterTail₀
  simp only [List.flatten_cons, List.flatten_nil, List.append_nil]
  after_results
  exact congrArg (fun z => shapeCast S8x1x1x64 z shapeCasts_S8x1x64_S8x1x1x64) e
theorem tail_8 : Pipeline.afterTail₀ cfgs (dats m) 0 (V0 m) [hostOps1] c main_v8 = shapeCast S8x1x1x64 (vArr m c) shapeCasts_S8x1x64_S8x1x1x64 := by
  have e : Pipeline.withArrays (cfgs 0).spec c (V0 m c) (fun w => (dats m 0 c).arrAt w (cfgs 0).N) (Proc.devRef .tc main_v5_2) = vArr m c :=
    (Pipeline.withArrays_arr (cfgs 0).spec (launch0.win.arr_inj) c (V0 m c) (fun w => (dats m 0 c).arrAt w (cfgs 0).N) 9).trans (final_9 m c)
  unfold Pipeline.afterTail₀
  simp only [List.flatten_cons, List.flatten_nil, List.append_nil]
  after_results
  exact congrArg (fun z => shapeCast S8x1x1x64 z shapeCasts_S8x1x64_S8x1x1x64) e

theorem run : θ_run (defs (F := Ideal)) (onTc (τ := τ) (main (F := Ideal))) ⟨m, fun _ => 0, ρ⟩ fun r => ∀ c : Dev nD,
      r.2.mem ((c.tc : Thread nD τ).loc main_v6) = shapeCast S8x1x1024 (yArr m c) shapeCasts_S8x16x64_S8x1x1024
      ∧ r.2.mem ((c.tc : Thread nD τ).loc main_v7) = shapeCast S8x1x1x64 (kArr m c) shapeCasts_S8x1x64_S8x1x1x64
      ∧ r.2.mem ((c.tc : Thread nD τ).loc main_v8) = shapeCast S8x1x1x64 (vArr m c) shapeCasts_S8x1x64_S8x1x1x64 := by
  run_from (run_main m ρ)
  · exact tail_6 m c
  · exact tail_7 m c
  · exact tail_8 m c

end Cert.ReferenceIdeal.Value
end
-- ==== Proof.Value.Claim.lean ====
/- The idealized kernel and the idealized reference end with equal results. -/
module

public import proofs.«01_k».proof.Defs
public import proofs.«01_k».proof.Proof.Value.Final
public import proofs.«01_k».proof.Proof.Value.RefFinal

@[expose] public section

set_option maxRecDepth 16384

noncomputable section

namespace Cert.Equal

open Idealize.ShloMosaic Idealize.ShloMosaic.TcCoe Online Idealize.SL.Sem

section Arrays
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem q_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.rQ m' c = Cert.KernelIdeal.Value.aQ m c := by
  funext b k d
  exact (Cert.ReferenceIdeal.Value.ent_0 m' c b k d).trans ((congrFun h _).trans (Cert.KernelIdeal.Value.ent_0 m c b k d).symm)
theorem kn_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.rkn m' c = Cert.KernelIdeal.Value.akn m c := by
  funext b d
  exact (Cert.ReferenceIdeal.Value.ent_1 m' c b d).trans ((congrFun h _).trans (Cert.KernelIdeal.Value.ent_5 m c b d).symm)
theorem vn_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.rvn m' c = Cert.KernelIdeal.Value.avn m c := by
  funext b d
  exact (Cert.ReferenceIdeal.Value.ent_2 m' c b d).trans ((congrFun h _).trans (Cert.KernelIdeal.Value.ent_6 m c b d).symm)
theorem k_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.rK m' c = Cert.KernelIdeal.Value.aK m c := by
  funext b n d
  exact (Cert.ReferenceIdeal.Value.ent_3 m' c b d n).trans ((congrFun h _).trans (Cert.KernelIdeal.Value.ent_2 m c b d n).symm)
theorem u_eq (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.rU m' c = Cert.KernelIdeal.Value.aU m c := by
  funext b n d
  exact (Cert.ReferenceIdeal.Value.ent_5 m' c b d n).trans ((congrFun h _).trans (Cert.KernelIdeal.Value.ent_4 m c b d n).symm)
theorem ks_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.rks m' c = Cert.KernelIdeal.Value.aks m c :=
  (congrFun (Cert.ReferenceIdeal.Gen.V_main_arg4 m' c) _).trans ((congrFun h _).trans (congrFun (Cert.KernelIdeal.Gen.V_main_arg4 m c) _).symm)
theorem vs_eq (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.rvs m' c = Cert.KernelIdeal.Value.avs m c :=
  (congrFun (Cert.ReferenceIdeal.Gen.V_main_arg6 m' c) _).trans ((congrFun h _).trans (congrFun (Cert.KernelIdeal.Gen.V_main_arg6 m c) _).symm)
end Arrays

theorem algebraic : Cert.algebraic_KernelIdeal_ReferenceIdeal (hKernelIdeal := Cert.KernelIdeal.Gen.facts) (hReferenceIdeal := Cert.ReferenceIdeal.Gen.facts) := by
  intro m g m' g' _ H
  refine ⟨fun c => shapeCast Cert.KernelIdeal.S8x1x1024 (Cert.KernelIdeal.Value.yArr m c) Cert.KernelIdeal.Gen.shapeCasts_S8x16x64_S8x1x1024,
    fun c => shapeCast Cert.KernelIdeal.S8x1x1x64 (Cert.KernelIdeal.Value.kArr m c) Cert.KernelIdeal.Gen.shapeCasts_S8x1x64_S8x1x1x64,
    fun c => m ((c.tc : Thread Cert.KernelIdeal.nD Cert.KernelIdeal.τ).loc Cert.KernelIdeal.main_arg4),
    fun c => shapeCast Cert.KernelIdeal.S8x1x1x64 (Cert.KernelIdeal.Value.vArr m c) Cert.KernelIdeal.Gen.shapeCasts_S8x1x64_S8x1x1x64,
    fun c => m ((c.tc : Thread Cert.KernelIdeal.nD Cert.KernelIdeal.τ).loc Cert.KernelIdeal.main_arg6), ?_, ?_⟩
  · refine θ_run_mono (θ_run_and (Cert.KernelIdeal.Value.run m g) (Cert.KernelIdeal.Gen.frame m g)) fun r h c => ?_
    obtain ⟨hy, hk, hv⟩ := h.1 c
    obtain ⟨h0, h1, h2, h3, h4, h5, h6⟩ := h.2.1 c
    exact ⟨hy, hk, h4, hv, h6, h0, h1, h2, h3, h4, h5, h6⟩
  · refine θ_run_mono (θ_run_and (Cert.ReferenceIdeal.Value.run m' g') (Cert.ReferenceIdeal.Gen.frame m' g')) fun r h c => ?_
    obtain ⟨hy, hk, hv⟩ := h.1 c
    obtain ⟨h0, h1, h2, h3, h4, h5, h6⟩ := h.2.1 c
    obtain ⟨e0, e1, e2, e3, e4, e5, e6⟩ := H c
    have ey : Cert.ReferenceIdeal.Value.yArr m' c = Cert.KernelIdeal.Value.yArr m c := by
      unfold Cert.ReferenceIdeal.Value.yArr Cert.KernelIdeal.Value.yArr
      rw [q_eq m m' c e0, k_eq m m' c e3, u_eq m m' c e5, kn_eq m m' c e1, vn_eq m m' c e2, ks_eq m m' c e4, vs_eq m m' c e6]
    have ek : Cert.ReferenceIdeal.Value.kArr m' c = Cert.KernelIdeal.Value.kArr m c := by
      unfold Cert.ReferenceIdeal.Value.kArr Cert.KernelIdeal.Value.kArr
      rw [kn_eq m m' c e1, ks_eq m m' c e4]
    have ev : Cert.ReferenceIdeal.Value.vArr m' c = Cert.KernelIdeal.Value.vArr m c := by
      unfold Cert.ReferenceIdeal.Value.vArr Cert.KernelIdeal.Value.vArr
      rw [vn_eq m m' c e2, vs_eq m m' c e6]
    refine ⟨hy.trans ?_, hk.trans ?_, h4.trans e4, hv.trans ?_, h6.trans e6, h0, h1, h2, h3, h4, h5, h6⟩
    · exact congrArg (fun z => shapeCast Cert.KernelIdeal.S8x1x1024 z Cert.KernelIdeal.Gen.shapeCasts_S8x16x64_S8x1x1024) ey
    · exact congrArg (fun z => shapeCast Cert.KernelIdeal.S8x1x1x64 z Cert.KernelIdeal.Gen.shapeCasts_S8x1x64_S8x1x1x64) ek
    · exact congrArg (fun z => shapeCast Cert.KernelIdeal.S8x1x1x64 z Cert.KernelIdeal.Gen.shapeCasts_S8x1x64_S8x1x1x64) ev

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Plain.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Steps.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Gen.frame m ρ,
  IdealRules.named_const.statement Cert.KernelIdeal.κ "scale_log2e" .f32 0x3E38AA3B#32 _ rfl, Cert.Equal.algebraic⟩

end Cert.Proof

end
